-- ==== Defs.lean ====
def Pre_Kernel (m : (ℓ : Loc Cert.Kernel.nD Cert.Kernel.τ Cert.Kernel.sig) → Buf (Elt Bits) ℓ) : Prop :=
  True

def Pre_Kernel_nearest_is_unique [hPre_nearest_is_unique : Cert.Pre_nearest_is_unique.Facts] (m : (ℓ : Loc Cert.Kernel.nD Cert.Kernel.τ Cert.Kernel.sig) → Buf (Elt Bits) ℓ) : Prop :=
  ∀ c : Dev Cert.Kernel.nD,
    (Cert.Pre_nearest_is_unique.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_nearest_is_unique : Cert.Pre_nearest_is_unique.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_is_unique.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_is_unique [hPre_nearest_is_unique : Cert.Pre_nearest_is_unique.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_is_unique.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_nearest_is_unique [hKernel : Cert.Kernel.Facts] [hPre_nearest_is_unique : Cert.Pre_nearest_is_unique.Facts] : Prop :=
  ∀ (m : (ℓ : Loc Cert.Kernel.nD Cert.Kernel.τ Cert.Kernel.sig) → Buf (Elt Bits) ℓ) (g : Dev Cert.Kernel.nD → PrngReg), Pre_Kernel_nearest_is_unique m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_nearest_is_unique : Cert.Pre_nearest_is_unique.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nearest_is_unique [hReferenceIdeal : Cert.ReferenceIdeal.Facts] [hPre_nearest_is_unique : Cert.Pre_nearest_is_unique.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_is_unique m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_nearest_is_unique : Cert.Pre_nearest_is_unique.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v286) = v0 c
          ∧ r.2.mem ((c.tc : Thread Cert.ReferenceIdeal.nD Cert.ReferenceIdeal.τ).loc Cert.ReferenceIdeal.main_v297) = v1 c
          ∧ r.2.mem ((c.tc : Thread Cert.ReferenceIdeal.nD Cert.ReferenceIdeal.τ).loc Cert.ReferenceIdeal.main_v307) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nearest_is_unique : Cert.Pre_nearest_is_unique.Facts),
    quiescent_Kernel (hKernel := hKernel)
    ∧ quiescent_Kernel_pre_nearest_is_unique (hKernel := hKernel) (hPre_nearest_is_unique := hPre_nearest_is_unique)
    ∧ quiescent_KernelIdeal (hKernelIdeal := hKernelIdeal) (hPre_nearest_is_unique := hPre_nearest_is_unique)
    ∧ quiescent_ReferenceIdeal (hReferenceIdeal := hReferenceIdeal)
    ∧ quiescent_ReferenceIdeal_pre_nearest_is_unique (hReferenceIdeal := hReferenceIdeal) (hPre_nearest_is_unique := hPre_nearest_is_unique)
    ∧ preserves_Kernel_KernelIdeal
    ∧ algebraic_KernelIdeal_ReferenceIdeal (hKernelIdeal := hKernelIdeal) (hReferenceIdeal := hReferenceIdeal) (hPre_nearest_is_unique := hPre_nearest_is_unique)
-- ==== Pre_nearest_is_unique.lean ====
abbrev S16x512x512 : Shape := ⟨3, ![16, 512, 512]⟩
abbrev S8x1024x512 : Shape := ⟨3, ![8, 1024, 512]⟩
abbrev S_ : Shape := ⟨0, ![]⟩
abbrev S8192x512 : Shape := ⟨2, ![8192, 512]⟩
abbrev S1x1024x512 : Shape := ⟨3, ![1, 1024, 512]⟩
abbrev S1024x512 : Shape := ⟨2, ![1024, 512]⟩
abbrev S8192 : Shape := ⟨1, ![8192]⟩
abbrev S8192x1 : Shape := ⟨2, ![8192, 1]⟩
abbrev S512x1024 : Shape := ⟨2, ![512, 1024]⟩
abbrev S8192x1024 : Shape := ⟨2, ![8192, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S9 : Shape := ⟨1, ![9]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  shapeCasts_S16x512x512_S8192x512 : S16x512x512.ShapeCasts S8192x512
  slices_S8x1024x512_S1x1024x512_0_0_0 : S8x1024x512.Slices ![0, 0, 0] S1x1024x512
  shapeCasts_S1x1024x512_S1024x512 : S1x1024x512.ShapeCasts S1024x512
  reducesTo_S8192x512_S8192_d1 : S8192x512.ReducesTo [1] S8192
  bcast_S8192_S8192x1_0 : S8192.BroadcastsInDim S8192x1 (![0] : Fin 1 → Fin S8192x1.rank)
  bcast_S_S8192x512 : S_.BroadcastsInDim S8192x512 (![] : Fin 0 → Fin S8192x512.rank)
  transposes_S1024x512_S512x1024_1_0 : S1024x512.Transposes [1, 0] S512x1024
  bcast_S8192x1_S8192x1024_0_1 : S8192x1.BroadcastsInDim S8192x1024 (![0, 1] : Fin 2 → Fin S8192x1024.rank)
  reducesTo_S1024x512_S1024_d1 : S1024x512.ReducesTo [1] S1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  natLt_1_32 : 1 < 32
  bcast_S_S8192 : S_.BroadcastsInDim S8192 (![] : Fin 0 → Fin S8192.rank)
  reducesTo_S8192_S_d0 : S8192.ReducesTo [0] S_
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  bcast_S8192_S8192x512_0 : S8192.BroadcastsInDim S8192x512 (![0] : Fin 1 → Fin S8192x512.rank)
  slices_S8x1024x512_S1x1024x512_1_0_0 : S8x1024x512.Slices ![1, 0, 0] S1x1024x512
  slices_S8x1024x512_S1x1024x512_2_0_0 : S8x1024x512.Slices ![2, 0, 0] S1x1024x512
  slices_S8x1024x512_S1x1024x512_3_0_0 : S8x1024x512.Slices ![3, 0, 0] S1x1024x512
  slices_S8x1024x512_S1x1024x512_4_0_0 : S8x1024x512.Slices ![4, 0, 0] S1x1024x512
  slices_S8x1024x512_S1x1024x512_5_0_0 : S8x1024x512.Slices ![5, 0, 0] S1x1024x512
  slices_S8x1024x512_S1x1024x512_6_0_0 : S8x1024x512.Slices ![6, 0, 0] S1x1024x512
  slices_S8x1024x512_S1x1024x512_7_0_0 : S8x1024x512.Slices ![7, 0, 0] S1x1024x512
  bcast_S_S1 : S_.BroadcastsInDim S1 (![] : Fin 0 → Fin S1.rank)
  concatenates_S1_S1_S1_S1_S1_S1_S1_S1_S1_S9_d0 : Shape.Concatenates [S1, S1, S1, S1, S1, S1, S1, S1, S1] S9 0
  dot_S8192x512_S512x1024_S8192x1024_1_0_0_1_n_n_wf : DotDims.WF S8192x512 S512x1024 S8192x1024 [1] [0] [0] [1] [] []
  gather_S1024x512_S8192x1_S8192x512_1_0_n_n_0_1_1512_wf : GatherDims.WF S1024x512 S8192x1 S8192x512 [1] [0] [] [0] [] 1 ![1, 512]

variable [Facts]

variable {F : FTy → Type} [FloatOps F]
def dot_S8192x512_S512x1024_S8192x1024_1_0_0_1_n_n : DotDims S8192x512 S512x1024 S8192x1024 where
  lhsContracting := [1]
  rhsContracting := [0]
  lhsNonContracting := [0]
  rhsNonContracting := [1]
  lhsBatch := []
  rhsBatch := []
  wf := dot_S8192x512_S512x1024_S8192x1024_1_0_0_1_n_n_wf
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S1024x512_S8192x1_S8192x512_1_0_n_n_0_1_1512 : GatherDims S1024x512 S8192x1 S8192x512 where
  offsetDims := [1]
  collapsedSliceDims := [0]
  operandBatchingDims := []
  startIndicesBatchingDims := []
  startIndexMap := [0]
  indexVectorDim := 1
  sliceSizes := ![1, 512]
  wf := gather_S1024x512_S8192x1_S8192x512_1_0_n_n_0_1_1512_wf

def fn_argmin {F : FTy → Type} [FloatOps F] (arg0 : FVec F S8192x1024 .f32) : IVec S8192 32 :=
  let v0 : IVec S8192x1024 32 := iotaInDim S8192x1024 32 1
  let cst : FVec F S_ .f32 := constant S_ .f32 0x7F800000#32
  let c : IVec S_ 32 := constantI S_ 32 0#32
  let v1_0 : FVec F S8192 .f32 := (fun x y u v j => (Host.argReduce reducer_argmin_f32_i32 x y u v reducesTo_S8192x1024_S8192_d1 h_S_ j).1) arg0 v0 cst c
  let v1_1 : IVec S8192 32 := (fun x y u v j => (Host.argReduce reducer_argmin_f32_i32 x y u v reducesTo_S8192x1024_S8192_d1 h_S_ j).2) arg0 v0 cst c
  v1_1

def fn_where {F : FTy → Type} [FloatOps F] (arg0 : IVec S8192 1) (arg1 : IVec S8192 32) (arg2 : IVec S8192 32) : IVec S8192 32 :=
  let v0 : IVec S8192 32 := select arg0 arg1 arg2
  v0

def fn_take {F : FTy → Type} [FloatOps F] (arg0 : FVec F S1024x512 .f32) (arg1 : IVec S8192 32) : FVec F S8192x512 .f32 :=
  let c : IVec S_ 32 := constantI S_ 32 0#32
  let v0 : IVec S8192 32 := broadcastInDim S8192 ![] bcast_S_S8192 c
  let v1 : IVec S8192 1 := cmpi .slt arg1 v0
  let c_0 : IVec S_ 32 := constantI S_ 32 1024#32
  let v2 : IVec S8192 32 := broadcastInDim S8192 ![] bcast_S_S8192 c_0
  let v3 : IVec S8192 32 := addi arg1 v2
  let v4 : IVec S8192 32 := fn_where (F := F) v1 v3 arg1
  let v5 : IVec S8192x1 32 := broadcastInDim S8192x1 ![0] bcast_S8192_S8192x1_0 v4
  let c_1 : IVec S1 32 := constantI S1 32 1023#32
  let c_2 : IVec S_ 32 := constantI S_ 32 0#32
  let v6 : IVec S8192x1 32 := broadcastInDim S8192x1 ![] bcast_S_S8192x1 c_2
  let v7 : IVec S8192x1 1 := cmpi .sge v5 v6
  let v8 : IVec S1x1 32 := broadcastInDim S1x1 ![1] bcast_S1_S1x1_1 c_1
  let v9 : IVec S8192x1 32 := broadcastInDim S8192x1 ![0, 1] bcast_S1x1_S8192x1_0_1 v8
  let v10 : IVec S8192x1 1 := cmpi .sle v5 v9
  let v11 : IVec S8192x1 1 := andi v7 v10
  let c_3 : IVec S_ 1 := constantI S_ 1 1#1
  let v12 : IVec S8192 1 := (fun x v => Host.reduce IntOp.andi x v reducesTo_S8192x1_S8192_d1 h_S_) v11 c_3
  let v13 : FVec F S8192x512 .f32 := (fun x i => Host.gather gather_S1024x512_S8192x1_S8192x512_1_0_n_n_0_1_1512 x i) arg0 v5
  let v14 : IVec S8192x512 1 := broadcastInDim S8192x512 ![0] bcast_S8192_S8192x512_0 v12
  let cst : FVec F S_ .f32 := constant S_ .f32 0x7FC00000#32
  let v15 : FVec F S8192x512 .f32 := broadcastInDim S8192x512 ![] bcast_S_S8192x512 cst
  let v16 : FVec F S8192x512 .f32 := select v14 v13 v15
  v16

def fn_part12 {F : FTy → Type} [FloatOps F] (main_v29 : IVec S_ 1) (main_v57 : IVec S_ 1) (main_v85 : IVec S_ 1) (main_v113 : IVec S_ 1) (main_v141 : IVec S_ 1) (main_v169 : IVec S_ 1) (main_v197 : IVec S_ 1) (main_v225 : IVec S_ 1) (main_v229 : IVec S1 1) : IVec S9 1 :=
  let main_v230 : IVec S1 1 := broadcastInDim S1 ![] bcast_S_S1 main_v29
  let main_v231 : IVec S1 1 := broadcastInDim S1 ![] bcast_S_S1 main_v57
  let main_v232 : IVec S1 1 := broadcastInDim S1 ![] bcast_S_S1 main_v85
  let main_v233 : IVec S1 1 := broadcastInDim S1 ![] bcast_S_S1 main_v113
  let main_v234 : IVec S1 1 := broadcastInDim S1 ![] bcast_S_S1 main_v141
  let main_v235 : IVec S1 1 := broadcastInDim S1 ![] bcast_S_S1 main_v169
  let main_v236 : IVec S1 1 := broadcastInDim S1 ![] bcast_S_S1 main_v197
  let main_v237 : IVec S1 1 := broadcastInDim S1 ![] bcast_S_S1 main_v225
  let main_v238 : IVec S9 1 := concatenate S9 0 [⟨S1, main_v229⟩, ⟨S1, main_v230⟩, ⟨S1, main_v231⟩, ⟨S1, main_v232⟩, ⟨S1, main_v233⟩, ⟨S1, main_v234⟩, ⟨S1, main_v235⟩, ⟨S1, main_v236⟩, ⟨S1, main_v237⟩] concatenates_S1_S1_S1_S1_S1_S1_S1_S1_S1_S9_d0
  main_v238

def fn_part11 {F : FTy → Type} [FloatOps F] (main_v3 : IVec S_ 1) (main_v29 : IVec S_ 1) (main_v57 : IVec S_ 1) (main_v85 : IVec S_ 1) (main_v113 : IVec S_ 1) (main_v141 : IVec S_ 1) (main_v169 : IVec S_ 1) (main_v197 : IVec S_ 1) (main_v200 : FVec F S8192x512 .f32) (main_v202 : FVec F S1024x512 .f32) (main_v209 : FVec F S8192x1024 .f32) (main_v210 : FVec F S8192x1024 .f32) : IVec S9 1 :=
  let main_v211 : FVec F S8192x1024 .f32 := subf main_v210 main_v209
  let main_v212 : FVec F S1024x512 .f32 := mulf main_v202 main_v202
  let main_cst_51 : FVec F S_ .f32 := constant S_ .f32 0x00000000#32
  let main_v213 : FVec F S1024 .f32 := (fun x v => Host.reduceAdd x v reducesTo_S1024x512_S1024_d1 h_S_) main_v212 main_cst_51
  let main_v214 : FVec F S1x1024 .f32 := broadcastInDim S1x1024 ![1] bcast_S1024_S1x1024_1 main_v213
  let main_v215 : FVec F S8192x1024 .f32 := broadcastInDim S8192x1024 ![0, 1] bcast_S1x1024_S8192x1024_0_1 main_v214
  let main_v216 : FVec F S8192x1024 .f32 := addf main_v211 main_v215
  let main_cst_52 : FVec F S_ .f32 := constant S_ .f32 0x7F800000#32
  let main_v217 : FVec F S8192 .f32 := (fun x v => Host.reduce FloatOps.minimumf x v reducesTo_S8192x1024_S8192_d1 h_S_) main_v216 main_cst_52
  let main_v218 : FVec F S8192x1 .f32 := broadcastInDim S8192x1 ![0] bcast_S8192_S8192x1_0 main_v217
  let main_v219 : FVec F S8192x1024 .f32 := broadcastInDim S8192x1024 ![0, 1] bcast_S8192x1_S8192x1024_0_1 main_v218
  let main_v220 : IVec S8192x1024 1 := cmpf .oeq main_v216 main_v219
  let main_v221 : IVec S8192x1024 32 := (extui 32 · natLt_1_32) main_v220
  let main_c_53 : IVec S_ 32 := constantI S_ 32 0#32
  let main_v222 : IVec S8192 32 := (fun x v => Host.reduce IntOp.addi x v reducesTo_S8192x1024_S8192_d1 h_S_) main_v221 main_c_53
  let main_c_54 : IVec S_ 32 := constantI S_ 32 1#32
  let main_v223 : IVec S8192 32 := broadcastInDim S8192 ![] bcast_S_S8192 main_c_54
  let main_v224 : IVec S8192 1 := cmpi .eq main_v222 main_v223
  let main_c_55 : IVec S_ 1 := constantI S_ 1 1#1
  let main_v225 : IVec S_ 1 := (fun x v => Host.reduce IntOp.andi x v reducesTo_S8192_S_d0 h_S_) main_v224 main_c_55
  let main_v226 : IVec S8192 32 := fn_argmin (F := F) main_v216
  let main_v227 : FVec F S8192x512 .f32 := fn_take (F := F) main_v202 main_v226
  let main_v228 : FVec F S8192x512 .f32 := subf main_v200 main_v227
  let main_v229 : IVec S1 1 := broadcastInDim S1 ![] bcast_S_S1 main_v3
  fn_part12 (F := F) main_v29 main_v57 main_v85 main_v113 main_v141 main_v169 main_v197 main_v225 main_v229

def fn_part10 {F : FTy → Type} [FloatOps F] (main_arg1 : FVec F S8x1024x512 .f32) (main_v3 : IVec S_ 1) (main_v29 : IVec S_ 1) (main_v57 : IVec S_ 1) (main_v85 : IVec S_ 1) (main_v113 : IVec S_ 1) (main_v141 : IVec S_ 1) (main_v169 : IVec S_ 1) (main_v172 : FVec F S8192x512 .f32) (main_v174 : FVec F S1024x512 .f32) (main_v188 : FVec F S8192x1024 .f32) (main_v191 : FVec F S8192x1024 .f32) : IVec S9 1 :=
  let main_v192 : IVec S8192x1024 1 := cmpf .oeq main_v188 main_v191
  let main_v193 : IVec S8192x1024 32 := (extui 32 · natLt_1_32) main_v192
  let main_c_46 : IVec S_ 32 := constantI S_ 32 0#32
  let main_v194 : IVec S8192 32 := (fun x v => Host.reduce IntOp.addi x v reducesTo_S8192x1024_S8192_d1 h_S_) main_v193 main_c_46
  let main_c_47 : IVec S_ 32 := constantI S_ 32 1#32
  let main_v195 : IVec S8192 32 := broadcastInDim S8192 ![] bcast_S_S8192 main_c_47
  let main_v196 : IVec S8192 1 := cmpi .eq main_v194 main_v195
  let main_c_48 : IVec S_ 1 := constantI S_ 1 1#1
  let main_v197 : IVec S_ 1 := (fun x v => Host.reduce IntOp.andi x v reducesTo_S8192_S_d0 h_S_) main_v196 main_c_48
  let main_v198 : IVec S8192 32 := fn_argmin (F := F) main_v188
  let main_v199 : FVec F S8192x512 .f32 := fn_take (F := F) main_v174 main_v198
  let main_v200 : FVec F S8192x512 .f32 := subf main_v172 main_v199
  let main_v201 : FVec F S1x1024x512 .f32 := (extractStridedSlice S1x1024x512 ![7, 0, 0] · slices_S8x1024x512_S1x1024x512_7_0_0) main_arg1
  let main_v202 : FVec F S1024x512 .f32 := shapeCast S1024x512 main_v201 shapeCasts_S1x1024x512_S1024x512
  let main_v203 : FVec F S8192x512 .f32 := mulf main_v200 main_v200
  let main_cst_49 : FVec F S_ .f32 := constant S_ .f32 0x00000000#32
  let main_v204 : FVec F S8192 .f32 := (fun x v => Host.reduceAdd x v reducesTo_S8192x512_S8192_d1 h_S_) main_v203 main_cst_49
  let main_v205 : FVec F S8192x1 .f32 := broadcastInDim S8192x1 ![0] bcast_S8192_S8192x1_0 main_v204
  let main_cst_50 : FVec F S_ .f32 := constant S_ .f32 0x40000000#32
  let main_v206 : FVec F S8192x512 .f32 := broadcastInDim S8192x512 ![] bcast_S_S8192x512 main_cst_50
  let main_v207 : FVec F S8192x512 .f32 := mulf main_v206 main_v200
  let main_v208 : FVec F S512x1024 .f32 := (transpose S512x1024 [1, 0] · transposes_S1024x512_S512x1024_1_0) main_v202
  let main_v209 : FVec F S8192x1024 .f32 := (fun l r => Host.dotGeneral dot_S8192x512_S512x1024_S8192x1024_1_0_0_1_n_n none l r) main_v207 main_v208
  let main_v210 : FVec F S8192x1024 .f32 := broadcastInDim S8192x1024 ![0, 1] bcast_S8192x1_S8192x1024_0_1 main_v205
  fn_part11 (F := F) main_v3 main_v29 main_v57 main_v85 main_v113 main_v141 main_v169 main_v197 main_v200 main_v202 main_v209 main_v210

def fn_part9 {F : FTy → Type} [FloatOps F] (main_arg1 : FVec F S8x1024x512 .f32) (main_v3 : IVec S_ 1) (main_v29 : IVec S_ 1) (main_v57 : IVec S_ 1) (main_v85 : IVec S_ 1) (main_v113 : IVec S_ 1) (main_v141 : IVec S_ 1) (main_v144 : FVec F S8192x512 .f32) (main_v169 : IVec S_ 1) (main_v171 : FVec F S8192x512 .f32) : IVec S9 1 :=
  let main_v172 : FVec F S8192x512 .f32 := subf main_v144 main_v171
  let main_v173 : FVec F S1x1024x512 .f32 := (extractStridedSlice S1x1024x512 ![6, 0, 0] · slices_S8x1024x512_S1x1024x512_6_0_0) main_arg1
  let main_v174 : FVec F S1024x512 .f32 := shapeCast S1024x512 main_v173 shapeCasts_S1x1024x512_S1024x512
  let main_v175 : FVec F S8192x512 .f32 := mulf main_v172 main_v172
  let main_cst_42 : FVec F S_ .f32 := constant S_ .f32 0x00000000#32
  let main_v176 : FVec F S8192 .f32 := (fun x v => Host.reduceAdd x v reducesTo_S8192x512_S8192_d1 h_S_) main_v175 main_cst_42
  let main_v177 : FVec F S8192x1 .f32 := broadcastInDim S8192x1 ![0] bcast_S8192_S8192x1_0 main_v176
  let main_cst_43 : FVec F S_ .f32 := constant S_ .f32 0x40000000#32
  let main_v178 : FVec F S8192x512 .f32 := broadcastInDim S8192x512 ![] bcast_S_S8192x512 main_cst_43
  let main_v179 : FVec F S8192x512 .f32 := mulf main_v178 main_v172
  let main_v180 : FVec F S512x1024 .f32 := (transpose S512x1024 [1, 0] · transposes_S1024x512_S512x1024_1_0) main_v174
  let main_v181 : FVec F S8192x1024 .f32 := (fun l r => Host.dotGeneral dot_S8192x512_S512x1024_S8192x1024_1_0_0_1_n_n none l r) main_v179 main_v180
  let main_v182 : FVec F S8192x1024 .f32 := broadcastInDim S8192x1024 ![0, 1] bcast_S8192x1_S8192x1024_0_1 main_v177
  let main_v183 : FVec F S8192x1024 .f32 := subf main_v182 main_v181
  let main_v184 : FVec F S1024x512 .f32 := mulf main_v174 main_v174
  let main_cst_44 : FVec F S_ .f32 := constant S_ .f32 0x00000000#32
  let main_v185 : FVec F S1024 .f32 := (fun x v => Host.reduceAdd x v reducesTo_S1024x512_S1024_d1 h_S_) main_v184 main_cst_44
  let main_v186 : FVec F S1x1024 .f32 := broadcastInDim S1x1024 ![1] bcast_S1024_S1x1024_1 main_v185
  let main_v187 : FVec F S8192x1024 .f32 := broadcastInDim S8192x1024 ![0, 1] bcast_S1x1024_S8192x1024_0_1 main_v186
  let main_v188 : FVec F S8192x1024 .f32 := addf main_v183 main_v187
  let main_cst_45 : FVec F S_ .f32 := constant S_ .f32 0x7F800000#32
  let main_v189 : FVec F S8192 .f32 := (fun x v => Host.reduce FloatOps.minimumf x v reducesTo_S8192x1024_S8192_d1 h_S_) main_v188 main_cst_45
  let main_v190 : FVec F S8192x1 .f32 := broadcastInDim S8192x1 ![0] bcast_S8192_S8192x1_0 main_v189
  let main_v191 : FVec F S8192x1024 .f32 := broadcastInDim S8192x1024 ![0, 1] bcast_S8192x1_S8192x1024_0_1 main_v190
  fn_part10 (F := F) main_arg1 main_v3 main_v29 main_v57 main_v85 main_v113 main_v141 main_v169 main_v172 main_v174 main_v188 main_v191

def fn_part8 {F : FTy → Type} [FloatOps F] (main_arg1 : FVec F S8x1024x512 .f32) (main_v3 : IVec S_ 1) (main_v29 : IVec S_ 1) (main_v57 : IVec S_ 1) (main_v85 : IVec S_ 1) (main_v113 : IVec S_ 1) (main_v141 : IVec S_ 1) (main_v144 : FVec F S8192x512 .f32) (main_v146 : FVec F S1024x512 .f32) (main_v149 : FVec F S8192x1 .f32) (main_v151 : FVec F S8192x512 .f32) (main_v152 : FVec F S512x1024 .f32) : IVec S9 1 :=
  let main_v153 : FVec F S8192x1024 .f32 := (fun l r => Host.dotGeneral dot_S8192x512_S512x1024_S8192x1024_1_0_0_1_n_n none l r) main_v151 main_v152
  let main_v154 : FVec F S8192x1024 .f32 := broadcastInDim S8192x1024 ![0, 1] bcast_S8192x1_S8192x1024_0_1 main_v149
  let main_v155 : FVec F S8192x1024 .f32 := subf main_v154 main_v153
  let main_v156 : FVec F S1024x512 .f32 := mulf main_v146 main_v146
  let main_cst_37 : FVec F S_ .f32 := constant S_ .f32 0x00000000#32
  let main_v157 : FVec F S1024 .f32 := (fun x v => Host.reduceAdd x v reducesTo_S1024x512_S1024_d1 h_S_) main_v156 main_cst_37
  let main_v158 : FVec F S1x1024 .f32 := broadcastInDim S1x1024 ![1] bcast_S1024_S1x1024_1 main_v157
  let main_v159 : FVec F S8192x1024 .f32 := broadcastInDim S8192x1024 ![0, 1] bcast_S1x1024_S8192x1024_0_1 main_v158
  let main_v160 : FVec F S8192x1024 .f32 := addf main_v155 main_v159
  let main_cst_38 : FVec F S_ .f32 := constant S_ .f32 0x7F800000#32
  let main_v161 : FVec F S8192 .f32 := (fun x v => Host.reduce FloatOps.minimumf x v reducesTo_S8192x1024_S8192_d1 h_S_) main_v160 main_cst_38
  let main_v162 : FVec F S8192x1 .f32 := broadcastInDim S8192x1 ![0] bcast_S8192_S8192x1_0 main_v161
  let main_v163 : FVec F S8192x1024 .f32 := broadcastInDim S8192x1024 ![0, 1] bcast_S8192x1_S8192x1024_0_1 main_v162
  let main_v164 : IVec S8192x1024 1 := cmpf .oeq main_v160 main_v163
  let main_v165 : IVec S8192x1024 32 := (extui 32 · natLt_1_32) main_v164
  let main_c_39 : IVec S_ 32 := constantI S_ 32 0#32
  let main_v166 : IVec S8192 32 := (fun x v => Host.reduce IntOp.addi x v reducesTo_S8192x1024_S8192_d1 h_S_) main_v165 main_c_39
  let main_c_40 : IVec S_ 32 := constantI S_ 32 1#32
  let main_v167 : IVec S8192 32 := broadcastInDim S8192 ![] bcast_S_S8192 main_c_40
  let main_v168 : IVec S8192 1 := cmpi .eq main_v166 main_v167
  let main_c_41 : IVec S_ 1 := constantI S_ 1 1#1
  let main_v169 : IVec S_ 1 := (fun x v => Host.reduce IntOp.andi x v reducesTo_S8192_S_d0 h_S_) main_v168 main_c_41
  let main_v170 : IVec S8192 32 := fn_argmin (F := F) main_v160
  let main_v171 : FVec F S8192x512 .f32 := fn_take (F := F) main_v146 main_v170
  fn_part9 (F := F) main_arg1 main_v3 main_v29 main_v57 main_v85 main_v113 main_v141 main_v144 main_v169 main_v171

def fn_part7 {F : FTy → Type} [FloatOps F] (main_arg1 : FVec F S8x1024x512 .f32) (main_v3 : IVec S_ 1) (main_v29 : IVec S_ 1) (main_v57 : IVec S_ 1) (main_v85 : IVec S_ 1) (main_v113 : IVec S_ 1) (main_v116 : FVec F S8192x512 .f32) (main_v118 : FVec F S1024x512 .f32) (main_v132 : FVec F S8192x1024 .f32) (main_v133 : FVec F S8192 .f32) : IVec S9 1 :=
  let main_v134 : FVec F S8192x1 .f32 := broadcastInDim S8192x1 ![0] bcast_S8192_S8192x1_0 main_v133
  let main_v135 : FVec F S8192x1024 .f32 := broadcastInDim S8192x1024 ![0, 1] bcast_S8192x1_S8192x1024_0_1 main_v134
  let main_v136 : IVec S8192x1024 1 := cmpf .oeq main_v132 main_v135
  let main_v137 : IVec S8192x1024 32 := (extui 32 · natLt_1_32) main_v136
  let main_c_32 : IVec S_ 32 := constantI S_ 32 0#32
  let main_v138 : IVec S8192 32 := (fun x v => Host.reduce IntOp.addi x v reducesTo_S8192x1024_S8192_d1 h_S_) main_v137 main_c_32
  let main_c_33 : IVec S_ 32 := constantI S_ 32 1#32
  let main_v139 : IVec S8192 32 := broadcastInDim S8192 ![] bcast_S_S8192 main_c_33
  let main_v140 : IVec S8192 1 := cmpi .eq main_v138 main_v139
  let main_c_34 : IVec S_ 1 := constantI S_ 1 1#1
  let main_v141 : IVec S_ 1 := (fun x v => Host.reduce IntOp.andi x v reducesTo_S8192_S_d0 h_S_) main_v140 main_c_34
  let main_v142 : IVec S8192 32 := fn_argmin (F := F) main_v132
  let main_v143 : FVec F S8192x512 .f32 := fn_take (F := F) main_v118 main_v142
  let main_v144 : FVec F S8192x512 .f32 := subf main_v116 main_v143
  let main_v145 : FVec F S1x1024x512 .f32 := (extractStridedSlice S1x1024x512 ![5, 0, 0] · slices_S8x1024x512_S1x1024x512_5_0_0) main_arg1
  let main_v146 : FVec F S1024x512 .f32 := shapeCast S1024x512 main_v145 shapeCasts_S1x1024x512_S1024x512
  let main_v147 : FVec F S8192x512 .f32 := mulf main_v144 main_v144
  let main_cst_35 : FVec F S_ .f32 := constant S_ .f32 0x00000000#32
  let main_v148 : FVec F S8192 .f32 := (fun x v => Host.reduceAdd x v reducesTo_S8192x512_S8192_d1 h_S_) main_v147 main_cst_35
  let main_v149 : FVec F S8192x1 .f32 := broadcastInDim S8192x1 ![0] bcast_S8192_S8192x1_0 main_v148
  let main_cst_36 : FVec F S_ .f32 := constant S_ .f32 0x40000000#32
  let main_v150 : FVec F S8192x512 .f32 := broadcastInDim S8192x512 ![] bcast_S_S8192x512 main_cst_36
  let main_v151 : FVec F S8192x512 .f32 := mulf main_v150 main_v144
  let main_v152 : FVec F S512x1024 .f32 := (transpose S512x1024 [1, 0] · transposes_S1024x512_S512x1024_1_0) main_v146
  fn_part8 (F := F) main_arg1 main_v3 main_v29 main_v57 main_v85 main_v113 main_v141 main_v144 main_v146 main_v149 main_v151 main_v152

def fn_part6 {F : FTy → Type} [FloatOps F] (main_arg1 : FVec F S8x1024x512 .f32) (main_v3 : IVec S_ 1) (main_v29 : IVec S_ 1) (main_v57 : IVec S_ 1) (main_v85 : IVec S_ 1) (main_v88 : FVec F S8192x512 .f32) (main_v90 : FVec F S1024x512 .f32) (main_v104 : FVec F S8192x1024 .f32) (main_v113 : IVec S_ 1) : IVec S9 1 :=
  let main_v114 : IVec S8192 32 := fn_argmin (F := F) main_v104
  let main_v115 : FVec F S8192x512 .f32 := fn_take (F := F) main_v90 main_v114
  let main_v116 : FVec F S8192x512 .f32 := subf main_v88 main_v115
  let main_v117 : FVec F S1x1024x512 .f32 := (extractStridedSlice S1x1024x512 ![4, 0, 0] · slices_S8x1024x512_S1x1024x512_4_0_0) main_arg1
  let main_v118 : FVec F S1024x512 .f32 := shapeCast S1024x512 main_v117 shapeCasts_S1x1024x512_S1024x512
  let main_v119 : FVec F S8192x512 .f32 := mulf main_v116 main_v116
  let main_cst_28 : FVec F S_ .f32 := constant S_ .f32 0x00000000#32
  let main_v120 : FVec F S8192 .f32 := (fun x v => Host.reduceAdd x v reducesTo_S8192x512_S8192_d1 h_S_) main_v119 main_cst_28
  let main_v121 : FVec F S8192x1 .f32 := broadcastInDim S8192x1 ![0] bcast_S8192_S8192x1_0 main_v120
  let main_cst_29 : FVec F S_ .f32 := constant S_ .f32 0x40000000#32
  let main_v122 : FVec F S8192x512 .f32 := broadcastInDim S8192x512 ![] bcast_S_S8192x512 main_cst_29
  let main_v123 : FVec F S8192x512 .f32 := mulf main_v122 main_v116
  let main_v124 : FVec F S512x1024 .f32 := (transpose S512x1024 [1, 0] · transposes_S1024x512_S512x1024_1_0) main_v118
  let main_v125 : FVec F S8192x1024 .f32 := (fun l r => Host.dotGeneral dot_S8192x512_S512x1024_S8192x1024_1_0_0_1_n_n none l r) main_v123 main_v124
  let main_v126 : FVec F S8192x1024 .f32 := broadcastInDim S8192x1024 ![0, 1] bcast_S8192x1_S8192x1024_0_1 main_v121
  let main_v127 : FVec F S8192x1024 .f32 := subf main_v126 main_v125
  let main_v128 : FVec F S1024x512 .f32 := mulf main_v118 main_v118
  let main_cst_30 : FVec F S_ .f32 := constant S_ .f32 0x00000000#32
  let main_v129 : FVec F S1024 .f32 := (fun x v => Host.reduceAdd x v reducesTo_S1024x512_S1024_d1 h_S_) main_v128 main_cst_30
  let main_v130 : FVec F S1x1024 .f32 := broadcastInDim S1x1024 ![1] bcast_S1024_S1x1024_1 main_v129
  let main_v131 : FVec F S8192x1024 .f32 := broadcastInDim S8192x1024 ![0, 1] bcast_S1x1024_S8192x1024_0_1 main_v130
  let main_v132 : FVec F S8192x1024 .f32 := addf main_v127 main_v131
  let main_cst_31 : FVec F S_ .f32 := constant S_ .f32 0x7F800000#32
  let main_v133 : FVec F S8192 .f32 := (fun x v => Host.reduce FloatOps.minimumf x v reducesTo_S8192x1024_S8192_d1 h_S_) main_v132 main_cst_31
  fn_part7 (F := F) main_arg1 main_v3 main_v29 main_v57 main_v85 main_v113 main_v116 main_v118 main_v132 main_v133

def fn_part5 {F : FTy → Type} [FloatOps F] (main_arg1 : FVec F S8x1024x512 .f32) (main_v3 : IVec S_ 1) (main_v29 : IVec S_ 1) (main_v57 : IVec S_ 1) (main_v85 : IVec S_ 1) (main_v88 : FVec F S8192x512 .f32) (main_v90 : FVec F S1024x512 .f32) (main_v93 : FVec F S8192x1 .f32) (main_v94 : FVec F S8192x512 .f32) : IVec S9 1 :=
  let main_v95 : FVec F S8192x512 .f32 := mulf main_v94 main_v88
  let main_v96 : FVec F S512x1024 .f32 := (transpose S512x1024 [1, 0] · transposes_S1024x512_S512x1024_1_0) main_v90
  let main_v97 : FVec F S8192x1024 .f32 := (fun l r => Host.dotGeneral dot_S8192x512_S512x1024_S8192x1024_1_0_0_1_n_n none l r) main_v95 main_v96
  let main_v98 : FVec F S8192x1024 .f32 := broadcastInDim S8192x1024 ![0, 1] bcast_S8192x1_S8192x1024_0_1 main_v93
  let main_v99 : FVec F S8192x1024 .f32 := subf main_v98 main_v97
  let main_v100 : FVec F S1024x512 .f32 := mulf main_v90 main_v90
  let main_cst_23 : FVec F S_ .f32 := constant S_ .f32 0x00000000#32
  let main_v101 : FVec F S1024 .f32 := (fun x v => Host.reduceAdd x v reducesTo_S1024x512_S1024_d1 h_S_) main_v100 main_cst_23
  let main_v102 : FVec F S1x1024 .f32 := broadcastInDim S1x1024 ![1] bcast_S1024_S1x1024_1 main_v101
  let main_v103 : FVec F S8192x1024 .f32 := broadcastInDim S8192x1024 ![0, 1] bcast_S1x1024_S8192x1024_0_1 main_v102
  let main_v104 : FVec F S8192x1024 .f32 := addf main_v99 main_v103
  let main_cst_24 : FVec F S_ .f32 := constant S_ .f32 0x7F800000#32
  let main_v105 : FVec F S8192 .f32 := (fun x v => Host.reduce FloatOps.minimumf x v reducesTo_S8192x1024_S8192_d1 h_S_) main_v104 main_cst_24
  let main_v106 : FVec F S8192x1 .f32 := broadcastInDim S8192x1 ![0] bcast_S8192_S8192x1_0 main_v105
  let main_v107 : FVec F S8192x1024 .f32 := broadcastInDim S8192x1024 ![0, 1] bcast_S8192x1_S8192x1024_0_1 main_v106
  let main_v108 : IVec S8192x1024 1 := cmpf .oeq main_v104 main_v107
  let main_v109 : IVec S8192x1024 32 := (extui 32 · natLt_1_32) main_v108
  let main_c_25 : IVec S_ 32 := constantI S_ 32 0#32
  let main_v110 : IVec S8192 32 := (fun x v => Host.reduce IntOp.addi x v reducesTo_S8192x1024_S8192_d1 h_S_) main_v109 main_c_25
  let main_c_26 : IVec S_ 32 := constantI S_ 32 1#32
  let main_v111 : IVec S8192 32 := broadcastInDim S8192 ![] bcast_S_S8192 main_c_26
  let main_v112 : IVec S8192 1 := cmpi .eq main_v110 main_v111
  let main_c_27 : IVec S_ 1 := constantI S_ 1 1#1
  let main_v113 : IVec S_ 1 := (fun x v => Host.reduce IntOp.andi x v reducesTo_S8192_S_d0 h_S_) main_v112 main_c_27
  fn_part6 (F := F) main_arg1 main_v3 main_v29 main_v57 main_v85 main_v88 main_v90 main_v104 main_v113

def fn_part4 {F : FTy → Type} [FloatOps F] (main_arg1 : FVec F S8x1024x512 .f32) (main_v3 : IVec S_ 1) (main_v29 : IVec S_ 1) (main_v57 : IVec S_ 1) (main_v60 : FVec F S8192x512 .f32) (main_v62 : FVec F S1024x512 .f32) (main_v76 : FVec F S8192x1024 .f32) : IVec S9 1 :=
  let main_cst_17 : FVec F S_ .f32 := constant S_ .f32 0x7F800000#32
  let main_v77 : FVec F S8192 .f32 := (fun x v => Host.reduce FloatOps.minimumf x v reducesTo_S8192x1024_S8192_d1 h_S_) main_v76 main_cst_17
  let main_v78 : FVec F S8192x1 .f32 := broadcastInDim S8192x1 ![0] bcast_S8192_S8192x1_0 main_v77
  let main_v79 : FVec F S8192x1024 .f32 := broadcastInDim S8192x1024 ![0, 1] bcast_S8192x1_S8192x1024_0_1 main_v78
  let main_v80 : IVec S8192x1024 1 := cmpf .oeq main_v76 main_v79
  let main_v81 : IVec S8192x1024 32 := (extui 32 · natLt_1_32) main_v80
  let main_c_18 : IVec S_ 32 := constantI S_ 32 0#32
  let main_v82 : IVec S8192 32 := (fun x v => Host.reduce IntOp.addi x v reducesTo_S8192x1024_S8192_d1 h_S_) main_v81 main_c_18
  let main_c_19 : IVec S_ 32 := constantI S_ 32 1#32
  let main_v83 : IVec S8192 32 := broadcastInDim S8192 ![] bcast_S_S8192 main_c_19
  let main_v84 : IVec S8192 1 := cmpi .eq main_v82 main_v83
  let main_c_20 : IVec S_ 1 := constantI S_ 1 1#1
  let main_v85 : IVec S_ 1 := (fun x v => Host.reduce IntOp.andi x v reducesTo_S8192_S_d0 h_S_) main_v84 main_c_20
  let main_v86 : IVec S8192 32 := fn_argmin (F := F) main_v76
  let main_v87 : FVec F S8192x512 .f32 := fn_take (F := F) main_v62 main_v86
  let main_v88 : FVec F S8192x512 .f32 := subf main_v60 main_v87
  let main_v89 : FVec F S1x1024x512 .f32 := (extractStridedSlice S1x1024x512 ![3, 0, 0] · slices_S8x1024x512_S1x1024x512_3_0_0) main_arg1
  let main_v90 : FVec F S1024x512 .f32 := shapeCast S1024x512 main_v89 shapeCasts_S1x1024x512_S1024x512
  let main_v91 : FVec F S8192x512 .f32 := mulf main_v88 main_v88
  let main_cst_21 : FVec F S_ .f32 := constant S_ .f32 0x00000000#32
  let main_v92 : FVec F S8192 .f32 := (fun x v => Host.reduceAdd x v reducesTo_S8192x512_S8192_d1 h_S_) main_v91 main_cst_21
  let main_v93 : FVec F S8192x1 .f32 := broadcastInDim S8192x1 ![0] bcast_S8192_S8192x1_0 main_v92
  let main_cst_22 : FVec F S_ .f32 := constant S_ .f32 0x40000000#32
  let main_v94 : FVec F S8192x512 .f32 := broadcastInDim S8192x512 ![] bcast_S_S8192x512 main_cst_22
  fn_part5 (F := F) main_arg1 main_v3 main_v29 main_v57 main_v85 main_v88 main_v90 main_v93 main_v94

def fn_part3 {F : FTy → Type} [FloatOps F] (main_arg1 : FVec F S8x1024x512 .f32) (main_v3 : IVec S_ 1) (main_v29 : IVec S_ 1) (main_v32 : FVec F S8192x512 .f32) (main_v34 : FVec F S1024x512 .f32) (main_v48 : FVec F S8192x1024 .f32) (main_v56 : IVec S8192 1) : IVec S9 1 :=
  let main_c_13 : IVec S_ 1 := constantI S_ 1 1#1
  let main_v57 : IVec S_ 1 := (fun x v => Host.reduce IntOp.andi x v reducesTo_S8192_S_d0 h_S_) main_v56 main_c_13
  let main_v58 : IVec S8192 32 := fn_argmin (F := F) main_v48
  let main_v59 : FVec F S8192x512 .f32 := fn_take (F := F) main_v34 main_v58
  let main_v60 : FVec F S8192x512 .f32 := subf main_v32 main_v59
  let main_v61 : FVec F S1x1024x512 .f32 := (extractStridedSlice S1x1024x512 ![2, 0, 0] · slices_S8x1024x512_S1x1024x512_2_0_0) main_arg1
  let main_v62 : FVec F S1024x512 .f32 := shapeCast S1024x512 main_v61 shapeCasts_S1x1024x512_S1024x512
  let main_v63 : FVec F S8192x512 .f32 := mulf main_v60 main_v60
  let main_cst_14 : FVec F S_ .f32 := constant S_ .f32 0x00000000#32
  let main_v64 : FVec F S8192 .f32 := (fun x v => Host.reduceAdd x v reducesTo_S8192x512_S8192_d1 h_S_) main_v63 main_cst_14
  let main_v65 : FVec F S8192x1 .f32 := broadcastInDim S8192x1 ![0] bcast_S8192_S8192x1_0 main_v64
  let main_cst_15 : FVec F S_ .f32 := constant S_ .f32 0x40000000#32
  let main_v66 : FVec F S8192x512 .f32 := broadcastInDim S8192x512 ![] bcast_S_S8192x512 main_cst_15
  let main_v67 : FVec F S8192x512 .f32 := mulf main_v66 main_v60
  let main_v68 : FVec F S512x1024 .f32 := (transpose S512x1024 [1, 0] · transposes_S1024x512_S512x1024_1_0) main_v62
  let main_v69 : FVec F S8192x1024 .f32 := (fun l r => Host.dotGeneral dot_S8192x512_S512x1024_S8192x1024_1_0_0_1_n_n none l r) main_v67 main_v68
  let main_v70 : FVec F S8192x1024 .f32 := broadcastInDim S8192x1024 ![0, 1] bcast_S8192x1_S8192x1024_0_1 main_v65
  let main_v71 : FVec F S8192x1024 .f32 := subf main_v70 main_v69
  let main_v72 : FVec F S1024x512 .f32 := mulf main_v62 main_v62
  let main_cst_16 : FVec F S_ .f32 := constant S_ .f32 0x00000000#32
  let main_v73 : FVec F S1024 .f32 := (fun x v => Host.reduceAdd x v reducesTo_S1024x512_S1024_d1 h_S_) main_v72 main_cst_16
  let main_v74 : FVec F S1x1024 .f32 := broadcastInDim S1x1024 ![1] bcast_S1024_S1x1024_1 main_v73
  let main_v75 : FVec F S8192x1024 .f32 := broadcastInDim S8192x1024 ![0, 1] bcast_S1x1024_S8192x1024_0_1 main_v74
  let main_v76 : FVec F S8192x1024 .f32 := addf main_v71 main_v75
  fn_part4 (F := F) main_arg1 main_v3 main_v29 main_v57 main_v60 main_v62 main_v76

def fn_part2 {F : FTy → Type} [FloatOps F] (main_arg1 : FVec F S8x1024x512 .f32) (main_v3 : IVec S_ 1) (main_v29 : IVec S_ 1) (main_v32 : FVec F S8192x512 .f32) (main_v34 : FVec F S1024x512 .f32) (main_v37 : FVec F S8192x1 .f32) : IVec S9 1 :=
  let main_cst_8 : FVec F S_ .f32 := constant S_ .f32 0x40000000#32
  let main_v38 : FVec F S8192x512 .f32 := broadcastInDim S8192x512 ![] bcast_S_S8192x512 main_cst_8
  let main_v39 : FVec F S8192x512 .f32 := mulf main_v38 main_v32
  let main_v40 : FVec F S512x1024 .f32 := (transpose S512x1024 [1, 0] · transposes_S1024x512_S512x1024_1_0) main_v34
  let main_v41 : FVec F S8192x1024 .f32 := (fun l r => Host.dotGeneral dot_S8192x512_S512x1024_S8192x1024_1_0_0_1_n_n none l r) main_v39 main_v40
  let main_v42 : FVec F S8192x1024 .f32 := broadcastInDim S8192x1024 ![0, 1] bcast_S8192x1_S8192x1024_0_1 main_v37
  let main_v43 : FVec F S8192x1024 .f32 := subf main_v42 main_v41
  let main_v44 : FVec F S1024x512 .f32 := mulf main_v34 main_v34
  let main_cst_9 : FVec F S_ .f32 := constant S_ .f32 0x00000000#32
  let main_v45 : FVec F S1024 .f32 := (fun x v => Host.reduceAdd x v reducesTo_S1024x512_S1024_d1 h_S_) main_v44 main_cst_9
  let main_v46 : FVec F S1x1024 .f32 := broadcastInDim S1x1024 ![1] bcast_S1024_S1x1024_1 main_v45
  let main_v47 : FVec F S8192x1024 .f32 := broadcastInDim S8192x1024 ![0, 1] bcast_S1x1024_S8192x1024_0_1 main_v46
  let main_v48 : FVec F S8192x1024 .f32 := addf main_v43 main_v47
  let main_cst_10 : FVec F S_ .f32 := constant S_ .f32 0x7F800000#32
  let main_v49 : FVec F S8192 .f32 := (fun x v => Host.reduce FloatOps.minimumf x v reducesTo_S8192x1024_S8192_d1 h_S_) main_v48 main_cst_10
  let main_v50 : FVec F S8192x1 .f32 := broadcastInDim S8192x1 ![0] bcast_S8192_S8192x1_0 main_v49
  let main_v51 : FVec F S8192x1024 .f32 := broadcastInDim S8192x1024 ![0, 1] bcast_S8192x1_S8192x1024_0_1 main_v50
  let main_v52 : IVec S8192x1024 1 := cmpf .oeq main_v48 main_v51
  let main_v53 : IVec S8192x1024 32 := (extui 32 · natLt_1_32) main_v52
  let main_c_11 : IVec S_ 32 := constantI S_ 32 0#32
  let main_v54 : IVec S8192 32 := (fun x v => Host.reduce IntOp.addi x v reducesTo_S8192x1024_S8192_d1 h_S_) main_v53 main_c_11
  let main_c_12 : IVec S_ 32 := constantI S_ 32 1#32
  let main_v55 : IVec S8192 32 := broadcastInDim S8192 ![] bcast_S_S8192 main_c_12
  let main_v56 : IVec S8192 1 := cmpi .eq main_v54 main_v55
  fn_part3 (F := F) main_arg1 main_v3 main_v29 main_v32 main_v34 main_v48 main_v56

def fn_part1 {F : FTy → Type} [FloatOps F] (main_arg1 : FVec F S8x1024x512 .f32) (main_v3 : IVec S_ 1) (main_v4 : FVec F S8192x512 .f32) (main_v6 : FVec F S1024x512 .f32) (main_v15 : FVec F S8192x1024 .f32) (main_v18 : FVec F S1x1024 .f32) : IVec S9 1 :=
  let main_v19 : FVec F S8192x1024 .f32 := broadcastInDim S8192x1024 ![0, 1] bcast_S1x1024_S8192x1024_0_1 main_v18
  let main_v20 : FVec F S8192x1024 .f32 := addf main_v15 main_v19
  let main_cst_3 : FVec F S_ .f32 := constant S_ .f32 0x7F800000#32
  let main_v21 : FVec F S8192 .f32 := (fun x v => Host.reduce FloatOps.minimumf x v reducesTo_S8192x1024_S8192_d1 h_S_) main_v20 main_cst_3
  let main_v22 : FVec F S8192x1 .f32 := broadcastInDim S8192x1 ![0] bcast_S8192_S8192x1_0 main_v21
  let main_v23 : FVec F S8192x1024 .f32 := broadcastInDim S8192x1024 ![0, 1] bcast_S8192x1_S8192x1024_0_1 main_v22
  let main_v24 : IVec S8192x1024 1 := cmpf .oeq main_v20 main_v23
  let main_v25 : IVec S8192x1024 32 := (extui 32 · natLt_1_32) main_v24
  let main_c_4 : IVec S_ 32 := constantI S_ 32 0#32
  let main_v26 : IVec S8192 32 := (fun x v => Host.reduce IntOp.addi x v reducesTo_S8192x1024_S8192_d1 h_S_) main_v25 main_c_4
  let main_c_5 : IVec S_ 32 := constantI S_ 32 1#32
  let main_v27 : IVec S8192 32 := broadcastInDim S8192 ![] bcast_S_S8192 main_c_5
  let main_v28 : IVec S8192 1 := cmpi .eq main_v26 main_v27
  let main_c_6 : IVec S_ 1 := constantI S_ 1 1#1
  let main_v29 : IVec S_ 1 := (fun x v => Host.reduce IntOp.andi x v reducesTo_S8192_S_d0 h_S_) main_v28 main_c_6
  let main_v30 : IVec S8192 32 := fn_argmin (F := F) main_v20
  let main_v31 : FVec F S8192x512 .f32 := fn_take (F := F) main_v6 main_v30
  let main_v32 : FVec F S8192x512 .f32 := subf main_v4 main_v31
  let main_v33 : FVec F S1x1024x512 .f32 := (extractStridedSlice S1x1024x512 ![1, 0, 0] · slices_S8x1024x512_S1x1024x512_1_0_0) main_arg1
  let main_v34 : FVec F S1024x512 .f32 := shapeCast S1024x512 main_v33 shapeCasts_S1x1024x512_S1024x512
  let main_v35 : FVec F S8192x512 .f32 := mulf main_v32 main_v32
  let main_cst_7 : FVec F S_ .f32 := constant S_ .f32 0x00000000#32
  let main_v36 : FVec F S8192 .f32 := (fun x v => Host.reduceAdd x v reducesTo_S8192x512_S8192_d1 h_S_) main_v35 main_cst_7
  let main_v37 : FVec F S8192x1 .f32 := broadcastInDim S8192x1 ![0] bcast_S8192_S8192x1_0 main_v36
  fn_part2 (F := F) main_arg1 main_v3 main_v29 main_v32 main_v34 main_v37

def fn {F : FTy → Type} [FloatOps F] (main_arg0 : FVec F S16x512x512 .f32) (main_arg1 : FVec F S8x1024x512 .f32) : IVec S9 1 :=
  let main_v0 : FVec F S8x1024x512 .f32 := Host.absf main_arg1
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  let main_v4 : FVec F S8192x512 .f32 := shapeCast S8192x512 main_arg0 shapeCasts_S16x512x512_S8192x512
  let main_v5 : FVec F S1x1024x512 .f32 := (extractStridedSlice S1x1024x512 ![0, 0, 0] · slices_S8x1024x512_S1x1024x512_0_0_0) main_arg1
  let main_v6 : FVec F S1024x512 .f32 := shapeCast S1024x512 main_v5 shapeCasts_S1x1024x512_S1024x512
  let main_v7 : FVec F S8192x512 .f32 := mulf main_v4 main_v4
  let main_cst_0 : FVec F S_ .f32 := constant S_ .f32 0x00000000#32
  let main_v8 : FVec F S8192 .f32 := (fun x v => Host.reduceAdd x v reducesTo_S8192x512_S8192_d1 h_S_) main_v7 main_cst_0
  let main_v9 : FVec F S8192x1 .f32 := broadcastInDim S8192x1 ![0] bcast_S8192_S8192x1_0 main_v8
  let main_cst_1 : FVec F S_ .f32 := constant S_ .f32 0x40000000#32
  let main_v10 : FVec F S8192x512 .f32 := broadcastInDim S8192x512 ![] bcast_S_S8192x512 main_cst_1
  let main_v11 : FVec F S8192x512 .f32 := mulf main_v10 main_v4
  let main_v12 : FVec F S512x1024 .f32 := (transpose S512x1024 [1, 0] · transposes_S1024x512_S512x1024_1_0) main_v6
  let main_v13 : FVec F S8192x1024 .f32 := (fun l r => Host.dotGeneral dot_S8192x512_S512x1024_S8192x1024_1_0_0_1_n_n none l r) main_v11 main_v12
  let main_v14 : FVec F S8192x1024 .f32 := broadcastInDim S8192x1024 ![0, 1] bcast_S8192x1_S8192x1024_0_1 main_v9
  let main_v15 : FVec F S8192x1024 .f32 := subf main_v14 main_v13
  let main_v16 : FVec F S1024x512 .f32 := mulf main_v6 main_v6
  let main_cst_2 : FVec F S_ .f32 := constant S_ .f32 0x00000000#32
  let main_v17 : FVec F S1024 .f32 := (fun x v => Host.reduceAdd x v reducesTo_S1024x512_S1024_d1 h_S_) main_v16 main_cst_2
  let main_v18 : FVec F S1x1024 .f32 := broadcastInDim S1x1024 ![1] bcast_S1024_S1x1024_1 main_v17
  fn_part1 (F := F) main_arg1 main_v3 main_v4 main_v6 main_v15 main_v18
-- ==== Kernel.lean ====
abbrev S16x512x512 : Shape := ⟨3, ![16, 512, 512]⟩
abbrev S8x1024x512 : Shape := ⟨3, ![8, 1024, 512]⟩
abbrev S8x1024x1536 : Shape := ⟨3, ![8, 1024, 1536]⟩
abbrev S_ : Shape := ⟨0, ![]⟩
abbrev S8x1024 : Shape := ⟨2, ![8, 1024]⟩
abbrev S8x1x1024 : Shape := ⟨3, ![8, 1, 1024]⟩
abbrev S8x1024x8 : Shape := ⟨3, ![8, 1024, 8]⟩
abbrev S8x8x1 : Shape := ⟨3, ![8, 8, 1]⟩
abbrev S1x1024x512 : Shape := ⟨3, ![1, 1024, 512]⟩
abbrev S1x1024x8 : Shape := ⟨3, ![1, 1024, 8]⟩
abbrev S1x8x1 : Shape := ⟨3, ![1, 8, 1]⟩
abbrev S512x1024 : Shape := ⟨2, ![512, 1024]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S1x1x1024 : Shape := ⟨3, ![1, 1, 1024]⟩
abbrev S1x1024 : Shape := ⟨2, ![1, 1024]⟩
abbrev S1x1024x1536 : Shape := ⟨3, ![1, 1024, 1536]⟩
abbrev S1024x1536 : Shape := ⟨2, ![1024, 1536]⟩
abbrev S512x1536 : Shape := ⟨2, ![512, 1536]⟩
abbrev S1x512x1 : Shape := ⟨3, ![1, 512, 1]⟩
abbrev S1 : Shape := ⟨1, ![1]⟩
abbrev S1x1x1 : Shape := ⟨3, ![1, 1, 1]⟩
abbrev S1x1 : Shape := ⟨2, ![1, 1]⟩
abbrev S512x8 : Shape := ⟨2, ![512, 8]⟩
abbrev S1024x8 : Shape := ⟨2, ![1024, 8]⟩
abbrev S8x1 : Shape := ⟨2, ![8, 1]⟩
abbrev S16x512x8 : Shape := ⟨3, ![16, 512, 8]⟩

abbrev nBuf : Space → Nat
  | .hbm => 26
  | .vmem => 11
  | .smem => 0
  | _ => 0

abbrev bufTy : (tb : Table) → Fin (tcTables nBuf tb) → BufTy
  | .hbm, ⟨0, _⟩ => ⟨S16x512x512, .f32⟩
  | .hbm, ⟨1, _⟩ => ⟨S8x1024x512, .f32⟩
  | .hbm, ⟨2, _⟩ => ⟨S8x1024x512, .bf16⟩
  | .hbm, ⟨3, _⟩ => ⟨S8x1024x512, .bf16⟩
  | .hbm, ⟨4, _⟩ => ⟨S8x1024x512, .f32⟩
  | .hbm, ⟨5, _⟩ => ⟨S8x1024x512, .f32⟩
  | .hbm, ⟨6, _⟩ => ⟨S8x1024x512, .bf16⟩
  | .hbm, ⟨7, _⟩ => ⟨S8x1024x512, .bf16⟩
  | .hbm, ⟨8, _⟩ => ⟨S8x1024x512, .f32⟩
  | .hbm, ⟨9, _⟩ => ⟨S8x1024x512, .f32⟩
  | .hbm, ⟨10, _⟩ => ⟨S8x1024x512, .bf16⟩
  | .hbm, ⟨11, _⟩ => ⟨S8x1024x1536, .bf16⟩
  | .hbm, ⟨12, _⟩ => ⟨S8x1024x512, .f32⟩
  | .hbm, ⟨13, _⟩ => ⟨S_, .f32⟩
  | .hbm, ⟨14, _⟩ => ⟨S8x1024, .f32⟩
  | .hbm, ⟨15, _⟩ => ⟨S8x1x1024, .f32⟩
  | .hbm, ⟨16, _⟩ => ⟨S8x1024x512, .f32⟩
  | .hbm, ⟨17, _⟩ => ⟨S8x1024x512, .f32⟩
  | .hbm, ⟨18, _⟩ => ⟨S8x1024x8, .i32⟩
  | .hbm, ⟨19, _⟩ => ⟨S8x8x1, .f32⟩
  | .hbm, ⟨20, _⟩ => ⟨S16x512x512, .f32⟩
  | .hbm, ⟨21, _⟩ => ⟨S16x512x8, .i32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S1x1024x512, .f32⟩
  | .local _ .vmem, ⟨1, _⟩ => ⟨S1x1024x512, .f32⟩
  | .local _ .vmem, ⟨2, _⟩ => ⟨S8x1024x512, .bf16⟩
  | .local _ .vmem, ⟨3, _⟩ => ⟨S8x1024x1536, .bf16⟩
  | .local _ .vmem, ⟨4, _⟩ => ⟨S8x1x1024, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x8, .i32⟩
  | .local _ .vmem, ⟨8, _⟩ => ⟨S1x1024x8, .i32⟩
  | .local _ .vmem, ⟨9, _⟩ => ⟨S1x8x1, .f32⟩
  | .local _ .vmem, ⟨10, _⟩ => ⟨S1x8x1, .f32⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14_0 : Ref sig .tc := ⟨.hbm, 17, rfl⟩
abbrev main_v14_1 : Ref sig .tc := ⟨.hbm, 18, rfl⟩
abbrev main_v14_2 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x8 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16x512x512 : Shape := ⟨3, ![16, 512, 512]⟩
abbrev S8x1024x512 : Shape := ⟨3, ![8, 1024, 512]⟩
abbrev S_ : Shape := ⟨0, ![]⟩
abbrev S1x1024x512 : Shape := ⟨3, ![1, 1024, 512]⟩
abbrev S1024x512 : Shape := ⟨2, ![1024, 512]⟩
abbrev S8192x512 : Shape := ⟨2, ![8192, 512]⟩
abbrev S8192 : Shape := ⟨1, ![8192]⟩
abbrev S8192x1 : Shape := ⟨2, ![8192, 1]⟩
abbrev S512x1024 : Shape := ⟨2, ![512, 1024]⟩
abbrev S8192x1024 : Shape := ⟨2, ![8192, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S16x512 : Shape := ⟨2, ![16, 512]⟩
abbrev S16x512x1 : Shape := ⟨3, ![16, 512, 1]⟩
abbrev S16x512x8 : Shape := ⟨3, ![16, 512, 8]⟩
abbrev S8 : Shape := ⟨1, ![8]⟩

abbrev nBuf : Space → Nat
  | .hbm => 584
  | .vmem => 0
  | .smem => 0
  | _ => 0

abbrev hbmTy0_0 (i : Nat) : BufTy := match i % 128 with
  | 0 => ⟨S16x512x512, .f32⟩
  | 1 => ⟨S8x1024x512, .f32⟩
  | 2 => ⟨S_, .f32⟩
  | 3 => ⟨S16x512x512, .f32⟩
  | 4 => ⟨S1x1024x512, .f32⟩
  | 5 => ⟨S1024x512, .f32⟩
  | 6 => ⟨S8192x512, .f32⟩
  | 7 => ⟨S8192x512, .f32⟩
  | 8 => ⟨S_, .f32⟩
  | 9 => ⟨S8192, .f32⟩
  | 10 => ⟨S8192x1, .f32⟩
  | 11 => ⟨S_, .f32⟩
  | 12 => ⟨S8192x512, .f32⟩
  | 13 => ⟨S8192x512, .f32⟩
  | 14 => ⟨S512x1024, .f32⟩
  | 15 => ⟨S8192x1024, .f32⟩
  | 16 => ⟨S8192x1024, .f32⟩
  | 17 => ⟨S8192x1024, .f32⟩
  | 18 => ⟨S1024x512, .f32⟩
  | 19 => ⟨S_, .f32⟩
  | 20 => ⟨S1024, .f32⟩
  | 21 => ⟨S1x1024, .f32⟩
  | 22 => ⟨S8192x1024, .f32⟩
  | 23 => ⟨S8192x1024, .f32⟩
  | 24 => ⟨S_, .f32⟩
  | 25 => ⟨S8192, .f32⟩
  | 26 => ⟨S8192x1, .f32⟩
  | 27 => ⟨S8192x1024, .f32⟩
  | 28 => ⟨S8192x1024, .i1⟩
  | 29 => ⟨S1024, .i32⟩
  | 30 => ⟨S_, .i32⟩
  | 31 => ⟨S_, .i32⟩
  | 32 => ⟨S8192x1024, .i32⟩
  | 33 => ⟨S8192x1024, .i32⟩
  | 34 => ⟨S8192x1024, .i32⟩
  | 35 => ⟨S_, .i32⟩
  | 36 => ⟨S8192, .i32⟩
  | 37 => ⟨S_, .i32⟩
  | 38 => ⟨S8192, .i32⟩
  | 39 => ⟨S8192, .i1⟩
  | 40 => ⟨S_, .i32⟩
  | 41 => ⟨S8192, .i32⟩
  | 42 => ⟨S8192, .i32⟩
  | 43 => ⟨S8192, .i32⟩
  | 44 => ⟨S8192x1, .i32⟩
  | 45 => ⟨S1, .i32⟩
  | 46 => ⟨S_, .i32⟩
  | 47 => ⟨S8192x1, .i32⟩
  | 48 => ⟨S8192x1, .i1⟩
  | 49 => ⟨S1x1, .i32⟩
  | 50 => ⟨S8192x1, .i32⟩
  | 51 => ⟨S8192x1, .i1⟩
  | 52 => ⟨S8192x1, .i1⟩
  | 53 => ⟨S_, .i1⟩
  | 54 => ⟨S8192, .i1⟩
  | 55 => ⟨S8192x512, .f32⟩
  | 56 => ⟨S8192x512, .i1⟩
  | 57 => ⟨S_, .f32⟩
  | 58 => ⟨S8192x512, .f32⟩
  | 59 => ⟨S8192x512, .f32⟩
  | 60 => ⟨S16x512x512, .f32⟩
  | 61 => ⟨S16x512x512, .f32⟩
  | 62 => ⟨S16x512x512, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S16x512x512, .f32⟩
  | 70 => ⟨S16x512x512, .f32⟩
  | 71 => ⟨S16x512x512, .f32⟩
  | 72 => ⟨S16x512x512, .f32⟩
  | 73 => ⟨S16x512, .i32⟩
  | 74 => ⟨S1x1024x512, .f32⟩
  | 75 => ⟨S1024x512, .f32⟩
  | 76 => ⟨S8192x512, .f32⟩
  | 77 => ⟨S8192x512, .f32⟩
  | 78 => ⟨S_, .f32⟩
  | 79 => ⟨S8192, .f32⟩
  | 80 => ⟨S8192x1, .f32⟩
  | 81 => ⟨S_, .f32⟩
  | 82 => ⟨S8192x512, .f32⟩
  | 83 => ⟨S8192x512, .f32⟩
  | 84 => ⟨S512x1024, .f32⟩
  | 85 => ⟨S8192x1024, .f32⟩
  | 86 => ⟨S8192x1024, .f32⟩
  | 87 => ⟨S8192x1024, .f32⟩
  | 88 => ⟨S1024x512, .f32⟩
  | 89 => ⟨S_, .f32⟩
  | 90 => ⟨S1024, .f32⟩
  | 91 => ⟨S1x1024, .f32⟩
  | 92 => ⟨S8192x1024, .f32⟩
  | 93 => ⟨S8192x1024, .f32⟩
  | 94 => ⟨S_, .f32⟩
  | 95 => ⟨S8192, .f32⟩
  | 96 => ⟨S8192x1, .f32⟩
  | 97 => ⟨S8192x1024, .f32⟩
  | 98 => ⟨S8192x1024, .i1⟩
  | 99 => ⟨S1024, .i32⟩
  | 100 => ⟨S_, .i32⟩
  | 101 => ⟨S_, .i32⟩
  | 102 => ⟨S8192x1024, .i32⟩
  | 103 => ⟨S8192x1024, .i32⟩
  | 104 => ⟨S8192x1024, .i32⟩
  | 105 => ⟨S_, .i32⟩
  | 106 => ⟨S8192, .i32⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S8192x1, .i32⟩
  | 115 => ⟨S1, .i32⟩
  | 116 => ⟨S_, .i32⟩
  | 117 => ⟨S8192x1, .i32⟩
  | 118 => ⟨S8192x1, .i1⟩
  | 119 => ⟨S1x1, .i32⟩
  | 120 => ⟨S8192x1, .i32⟩
  | 121 => ⟨S8192x1, .i1⟩
  | 122 => ⟨S8192x1, .i1⟩
  | 123 => ⟨S_, .i1⟩
  | 124 => ⟨S8192, .i1⟩
  | 125 => ⟨S8192x512, .f32⟩
  | 126 => ⟨S8192x512, .i1⟩
  | 127 => ⟨S_, .f32⟩
  | _ => ⟨S16x512x512, .f32⟩

abbrev hbmTy0_1 (i : Nat) : BufTy := match i % 128 with
  | 0 => ⟨S8192x512, .f32⟩
  | 1 => ⟨S8192x512, .f32⟩
  | 2 => ⟨S16x512x512, .f32⟩
  | 3 => ⟨S16x512x512, .f32⟩
  | 4 => ⟨S16x512x512, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S16x512x512, .f32⟩
  | 12 => ⟨S16x512x512, .f32⟩
  | 13 => ⟨S16x512x512, .f32⟩
  | 14 => ⟨S16x512x512, .f32⟩
  | 15 => ⟨S16x512, .i32⟩
  | 16 => ⟨S1x1024x512, .f32⟩
  | 17 => ⟨S1024x512, .f32⟩
  | 18 => ⟨S8192x512, .f32⟩
  | 19 => ⟨S8192x512, .f32⟩
  | 20 => ⟨S_, .f32⟩
  | 21 => ⟨S8192, .f32⟩
  | 22 => ⟨S8192x1, .f32⟩
  | 23 => ⟨S_, .f32⟩
  | 24 => ⟨S8192x512, .f32⟩
  | 25 => ⟨S8192x512, .f32⟩
  | 26 => ⟨S512x1024, .f32⟩
  | 27 => ⟨S8192x1024, .f32⟩
  | 28 => ⟨S8192x1024, .f32⟩
  | 29 => ⟨S8192x1024, .f32⟩
  | 30 => ⟨S1024x512, .f32⟩
  | 31 => ⟨S_, .f32⟩
  | 32 => ⟨S1024, .f32⟩
  | 33 => ⟨S1x1024, .f32⟩
  | 34 => ⟨S8192x1024, .f32⟩
  | 35 => ⟨S8192x1024, .f32⟩
  | 36 => ⟨S_, .f32⟩
  | 37 => ⟨S8192, .f32⟩
  | 38 => ⟨S8192x1, .f32⟩
  | 39 => ⟨S8192x1024, .f32⟩
  | 40 => ⟨S8192x1024, .i1⟩
  | 41 => ⟨S1024, .i32⟩
  | 42 => ⟨S_, .i32⟩
  | 43 => ⟨S_, .i32⟩
  | 44 => ⟨S8192x1024, .i32⟩
  | 45 => ⟨S8192x1024, .i32⟩
  | 46 => ⟨S8192x1024, .i32⟩
  | 47 => ⟨S_, .i32⟩
  | 48 => ⟨S8192, .i32⟩
  | 49 => ⟨S_, .i32⟩
  | 50 => ⟨S8192, .i32⟩
  | 51 => ⟨S8192, .i1⟩
  | 52 => ⟨S_, .i32⟩
  | 53 => ⟨S8192, .i32⟩
  | 54 => ⟨S8192, .i32⟩
  | 55 => ⟨S8192, .i32⟩
  | 56 => ⟨S8192x1, .i32⟩
  | 57 => ⟨S1, .i32⟩
  | 58 => ⟨S_, .i32⟩
  | 59 => ⟨S8192x1, .i32⟩
  | 60 => ⟨S8192x1, .i1⟩
  | 61 => ⟨S1x1, .i32⟩
  | 62 => ⟨S8192x1, .i32⟩
  | 63 => ⟨S8192x1, .i1⟩
  | 64 => ⟨S8192x1, .i1⟩
  | 65 => ⟨S_, .i1⟩
  | 66 => ⟨S8192, .i1⟩
  | 67 => ⟨S8192x512, .f32⟩
  | 68 => ⟨S8192x512, .i1⟩
  | 69 => ⟨S_, .f32⟩
  | 70 => ⟨S8192x512, .f32⟩
  | 71 => ⟨S8192x512, .f32⟩
  | 72 => ⟨S16x512x512, .f32⟩
  | 73 => ⟨S16x512x512, .f32⟩
  | 74 => ⟨S16x512x512, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S16x512x512, .f32⟩
  | 82 => ⟨S16x512x512, .f32⟩
  | 83 => ⟨S16x512x512, .f32⟩
  | 84 => ⟨S16x512x512, .f32⟩
  | 85 => ⟨S16x512, .i32⟩
  | 86 => ⟨S1x1024x512, .f32⟩
  | 87 => ⟨S1024x512, .f32⟩
  | 88 => ⟨S8192x512, .f32⟩
  | 89 => ⟨S8192x512, .f32⟩
  | 90 => ⟨S_, .f32⟩
  | 91 => ⟨S8192, .f32⟩
  | 92 => ⟨S8192x1, .f32⟩
  | 93 => ⟨S_, .f32⟩
  | 94 => ⟨S8192x512, .f32⟩
  | 95 => ⟨S8192x512, .f32⟩
  | 96 => ⟨S512x1024, .f32⟩
  | 97 => ⟨S8192x1024, .f32⟩
  | 98 => ⟨S8192x1024, .f32⟩
  | 99 => ⟨S8192x1024, .f32⟩
  | 100 => ⟨S1024x512, .f32⟩
  | 101 => ⟨S_, .f32⟩
  | 102 => ⟨S1024, .f32⟩
  | 103 => ⟨S1x1024, .f32⟩
  | 104 => ⟨S8192x1024, .f32⟩
  | 105 => ⟨S8192x1024, .f32⟩
  | 106 => ⟨S_, .f32⟩
  | 107 => ⟨S8192, .f32⟩
  | 108 => ⟨S8192x1, .f32⟩
  | 109 => ⟨S8192x1024, .f32⟩
  | 110 => ⟨S8192x1024, .i1⟩
  | 111 => ⟨S1024, .i32⟩
  | 112 => ⟨S_, .i32⟩
  | 113 => ⟨S_, .i32⟩
  | 114 => ⟨S8192x1024, .i32⟩
  | 115 => ⟨S8192x1024, .i32⟩
  | 116 => ⟨S8192x1024, .i32⟩
  | 117 => ⟨S_, .i32⟩
  | 118 => ⟨S8192, .i32⟩
  | 119 => ⟨S_, .i32⟩
  | 120 => ⟨S8192, .i32⟩
  | 121 => ⟨S8192, .i1⟩
  | 122 => ⟨S_, .i32⟩
  | 123 => ⟨S8192, .i32⟩
  | 124 => ⟨S8192, .i32⟩
  | 125 => ⟨S8192, .i32⟩
  | 126 => ⟨S8192x1, .i32⟩
  | 127 => ⟨S1, .i32⟩
  | _ => ⟨S16x512x512, .f32⟩

abbrev hbmTy0_2 (i : Nat) : BufTy := match i % 128 with
  | 0 => ⟨S_, .i32⟩
  | 1 => ⟨S8192x1, .i32⟩
  | 2 => ⟨S8192x1, .i1⟩
  | 3 => ⟨S1x1, .i32⟩
  | 4 => ⟨S8192x1, .i32⟩
  | 5 => ⟨S8192x1, .i1⟩
  | 6 => ⟨S8192x1, .i1⟩
  | 7 => ⟨S_, .i1⟩
  | 8 => ⟨S8192, .i1⟩
  | 9 => ⟨S8192x512, .f32⟩
  | 10 => ⟨S8192x512, .i1⟩
  | 11 => ⟨S_, .f32⟩
  | 12 => ⟨S8192x512, .f32⟩
  | 13 => ⟨S8192x512, .f32⟩
  | 14 => ⟨S16x512x512, .f32⟩
  | 15 => ⟨S16x512x512, .f32⟩
  | 16 => ⟨S16x512x512, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S16x512x512, .f32⟩
  | 24 => ⟨S16x512x512, .f32⟩
  | 25 => ⟨S16x512x512, .f32⟩
  | 26 => ⟨S16x512x512, .f32⟩
  | 27 => ⟨S16x512, .i32⟩
  | 28 => ⟨S1x1024x512, .f32⟩
  | 29 => ⟨S1024x512, .f32⟩
  | 30 => ⟨S8192x512, .f32⟩
  | 31 => ⟨S8192x512, .f32⟩
  | 32 => ⟨S_, .f32⟩
  | 33 => ⟨S8192, .f32⟩
  | 34 => ⟨S8192x1, .f32⟩
  | 35 => ⟨S_, .f32⟩
  | 36 => ⟨S8192x512, .f32⟩
  | 37 => ⟨S8192x512, .f32⟩
  | 38 => ⟨S512x1024, .f32⟩
  | 39 => ⟨S8192x1024, .f32⟩
  | 40 => ⟨S8192x1024, .f32⟩
  | 41 => ⟨S8192x1024, .f32⟩
  | 42 => ⟨S1024x512, .f32⟩
  | 43 => ⟨S_, .f32⟩
  | 44 => ⟨S1024, .f32⟩
  | 45 => ⟨S1x1024, .f32⟩
  | 46 => ⟨S8192x1024, .f32⟩
  | 47 => ⟨S8192x1024, .f32⟩
  | 48 => ⟨S_, .f32⟩
  | 49 => ⟨S8192, .f32⟩
  | 50 => ⟨S8192x1, .f32⟩
  | 51 => ⟨S8192x1024, .f32⟩
  | 52 => ⟨S8192x1024, .i1⟩
  | 53 => ⟨S1024, .i32⟩
  | 54 => ⟨S_, .i32⟩
  | 55 => ⟨S_, .i32⟩
  | 56 => ⟨S8192x1024, .i32⟩
  | 57 => ⟨S8192x1024, .i32⟩
  | 58 => ⟨S8192x1024, .i32⟩
  | 59 => ⟨S_, .i32⟩
  | 60 => ⟨S8192, .i32⟩
  | 61 => ⟨S_, .i32⟩
  | 62 => ⟨S8192, .i32⟩
  | 63 => ⟨S8192, .i1⟩
  | 64 => ⟨S_, .i32⟩
  | 65 => ⟨S8192, .i32⟩
  | 66 => ⟨S8192, .i32⟩
  | 67 => ⟨S8192, .i32⟩
  | 68 => ⟨S8192x1, .i32⟩
  | 69 => ⟨S1, .i32⟩
  | 70 => ⟨S_, .i32⟩
  | 71 => ⟨S8192x1, .i32⟩
  | 72 => ⟨S8192x1, .i1⟩
  | 73 => ⟨S1x1, .i32⟩
  | 74 => ⟨S8192x1, .i32⟩
  | 75 => ⟨S8192x1, .i1⟩
  | 76 => ⟨S8192x1, .i1⟩
  | 77 => ⟨S_, .i1⟩
  | 78 => ⟨S8192, .i1⟩
  | 79 => ⟨S8192x512, .f32⟩
  | 80 => ⟨S8192x512, .i1⟩
  | 81 => ⟨S_, .f32⟩
  | 82 => ⟨S8192x512, .f32⟩
  | 83 => ⟨S8192x512, .f32⟩
  | 84 => ⟨S16x512x512, .f32⟩
  | 85 => ⟨S16x512x512, .f32⟩
  | 86 => ⟨S16x512x512, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S16x512x512, .f32⟩
  | 94 => ⟨S16x512x512, .f32⟩
  | 95 => ⟨S16x512x512, .f32⟩
  | 96 => ⟨S16x512x512, .f32⟩
  | 97 => ⟨S16x512, .i32⟩
  | 98 => ⟨S1x1024x512, .f32⟩
  | 99 => ⟨S1024x512, .f32⟩
  | 100 => ⟨S8192x512, .f32⟩
  | 101 => ⟨S8192x512, .f32⟩
  | 102 => ⟨S_, .f32⟩
  | 103 => ⟨S8192, .f32⟩
  | 104 => ⟨S8192x1, .f32⟩
  | 105 => ⟨S_, .f32⟩
  | 106 => ⟨S8192x512, .f32⟩
  | 107 => ⟨S8192x512, .f32⟩
  | 108 => ⟨S512x1024, .f32⟩
  | 109 => ⟨S8192x1024, .f32⟩
  | 110 => ⟨S8192x1024, .f32⟩
  | 111 => ⟨S8192x1024, .f32⟩
  | 112 => ⟨S1024x512, .f32⟩
  | 113 => ⟨S_, .f32⟩
  | 114 => ⟨S1024, .f32⟩
  | 115 => ⟨S1x1024, .f32⟩
  | 116 => ⟨S8192x1024, .f32⟩
  | 117 => ⟨S8192x1024, .f32⟩
  | 118 => ⟨S_, .f32⟩
  | 119 => ⟨S8192, .f32⟩
  | 120 => ⟨S8192x1, .f32⟩
  | 121 => ⟨S8192x1024, .f32⟩
  | 122 => ⟨S8192x1024, .i1⟩
  | 123 => ⟨S1024, .i32⟩
  | 124 => ⟨S_, .i32⟩
  | 125 => ⟨S_, .i32⟩
  | 126 => ⟨S8192x1024, .i32⟩
  | 127 => ⟨S8192x1024, .i32⟩
  | _ => ⟨S16x512x512, .f32⟩

abbrev hbmTy0_3 (i : Nat) : BufTy := match i % 128 with
  | 0 => ⟨S8192x1024, .i32⟩
  | 1 => ⟨S_, .i32⟩
  | 2 => ⟨S8192, .i32⟩
  | 3 => ⟨S_, .i32⟩
  | 4 => ⟨S8192, .i32⟩
  | 5 => ⟨S8192, .i1⟩
  | 6 => ⟨S_, .i32⟩
  | 7 => ⟨S8192, .i32⟩
  | 8 => ⟨S8192, .i32⟩
  | 9 => ⟨S8192, .i32⟩
  | 10 => ⟨S8192x1, .i32⟩
  | 11 => ⟨S1, .i32⟩
  | 12 => ⟨S_, .i32⟩
  | 13 => ⟨S8192x1, .i32⟩
  | 14 => ⟨S8192x1, .i1⟩
  | 15 => ⟨S1x1, .i32⟩
  | 16 => ⟨S8192x1, .i32⟩
  | 17 => ⟨S8192x1, .i1⟩
  | 18 => ⟨S8192x1, .i1⟩
  | 19 => ⟨S_, .i1⟩
  | 20 => ⟨S8192, .i1⟩
  | 21 => ⟨S8192x512, .f32⟩
  | 22 => ⟨S8192x512, .i1⟩
  | 23 => ⟨S_, .f32⟩
  | 24 => ⟨S8192x512, .f32⟩
  | 25 => ⟨S8192x512, .f32⟩
  | 26 => ⟨S16x512x512, .f32⟩
  | 27 => ⟨S16x512x512, .f32⟩
  | 28 => ⟨S16x512x512, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S16x512x512, .f32⟩
  | 36 => ⟨S16x512x512, .f32⟩
  | 37 => ⟨S16x512x512, .f32⟩
  | 38 => ⟨S16x512x512, .f32⟩
  | 39 => ⟨S16x512, .i32⟩
  | 40 => ⟨S1x1024x512, .f32⟩
  | 41 => ⟨S1024x512, .f32⟩
  | 42 => ⟨S8192x512, .f32⟩
  | 43 => ⟨S8192x512, .f32⟩
  | 44 => ⟨S_, .f32⟩
  | 45 => ⟨S8192, .f32⟩
  | 46 => ⟨S8192x1, .f32⟩
  | 47 => ⟨S_, .f32⟩
  | 48 => ⟨S8192x512, .f32⟩
  | 49 => ⟨S8192x512, .f32⟩
  | 50 => ⟨S512x1024, .f32⟩
  | 51 => ⟨S8192x1024, .f32⟩
  | 52 => ⟨S8192x1024, .f32⟩
  | 53 => ⟨S8192x1024, .f32⟩
  | 54 => ⟨S1024x512, .f32⟩
  | 55 => ⟨S_, .f32⟩
  | 56 => ⟨S1024, .f32⟩
  | 57 => ⟨S1x1024, .f32⟩
  | 58 => ⟨S8192x1024, .f32⟩
  | 59 => ⟨S8192x1024, .f32⟩
  | 60 => ⟨S_, .f32⟩
  | 61 => ⟨S8192, .f32⟩
  | 62 => ⟨S8192x1, .f32⟩
  | 63 => ⟨S8192x1024, .f32⟩
  | 64 => ⟨S8192x1024, .i1⟩
  | 65 => ⟨S1024, .i32⟩
  | 66 => ⟨S_, .i32⟩
  | 67 => ⟨S_, .i32⟩
  | 68 => ⟨S8192x1024, .i32⟩
  | 69 => ⟨S8192x1024, .i32⟩
  | 70 => ⟨S8192x1024, .i32⟩
  | 71 => ⟨S_, .i32⟩
  | 72 => ⟨S8192, .i32⟩
  | 73 => ⟨S_, .i32⟩
  | 74 => ⟨S8192, .i32⟩
  | 75 => ⟨S8192, .i1⟩
  | 76 => ⟨S_, .i32⟩
  | 77 => ⟨S8192, .i32⟩
  | 78 => ⟨S8192, .i32⟩
  | 79 => ⟨S8192, .i32⟩
  | 80 => ⟨S8192x1, .i32⟩
  | 81 => ⟨S1, .i32⟩
  | 82 => ⟨S_, .i32⟩
  | 83 => ⟨S8192x1, .i32⟩
  | 84 => ⟨S8192x1, .i1⟩
  | 85 => ⟨S1x1, .i32⟩
  | 86 => ⟨S8192x1, .i32⟩
  | 87 => ⟨S8192x1, .i1⟩
  | 88 => ⟨S8192x1, .i1⟩
  | 89 => ⟨S_, .i1⟩
  | 90 => ⟨S8192, .i1⟩
  | 91 => ⟨S8192x512, .f32⟩
  | 92 => ⟨S8192x512, .i1⟩
  | 93 => ⟨S_, .f32⟩
  | 94 => ⟨S8192x512, .f32⟩
  | 95 => ⟨S8192x512, .f32⟩
  | 96 => ⟨S16x512x512, .f32⟩
  | 97 => ⟨S16x512x512, .f32⟩
  | 98 => ⟨S16x512x512, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S16x512x512, .f32⟩
  | 106 => ⟨S16x512x512, .f32⟩
  | 107 => ⟨S16x512x512, .f32⟩
  | 108 => ⟨S16x512x512, .f32⟩
  | 109 => ⟨S16x512, .i32⟩
  | 110 => ⟨S1x1024x512, .f32⟩
  | 111 => ⟨S1024x512, .f32⟩
  | 112 => ⟨S8192x512, .f32⟩
  | 113 => ⟨S8192x512, .f32⟩
  | 114 => ⟨S_, .f32⟩
  | 115 => ⟨S8192, .f32⟩
  | 116 => ⟨S8192x1, .f32⟩
  | 117 => ⟨S_, .f32⟩
  | 118 => ⟨S8192x512, .f32⟩
  | 119 => ⟨S8192x512, .f32⟩
  | 120 => ⟨S512x1024, .f32⟩
  | 121 => ⟨S8192x1024, .f32⟩
  | 122 => ⟨S8192x1024, .f32⟩
  | 123 => ⟨S8192x1024, .f32⟩
  | 124 => ⟨S1024x512, .f32⟩
  | 125 => ⟨S_, .f32⟩
  | 126 => ⟨S1024, .f32⟩
  | 127 => ⟨S1x1024, .f32⟩
  | _ => ⟨S16x512x512, .f32⟩

abbrev hbmTy0_4 (i : Nat) : BufTy := match i % 128 with
  | 0 => ⟨S8192x1024, .f32⟩
  | 1 => ⟨S8192x1024, .f32⟩
  | 2 => ⟨S_, .f32⟩
  | 3 => ⟨S8192, .f32⟩
  | 4 => ⟨S8192x1, .f32⟩
  | 5 => ⟨S8192x1024, .f32⟩
  | 6 => ⟨S8192x1024, .i1⟩
  | 7 => ⟨S1024, .i32⟩
  | 8 => ⟨S_, .i32⟩
  | 9 => ⟨S_, .i32⟩
  | 10 => ⟨S8192x1024, .i32⟩
  | 11 => ⟨S8192x1024, .i32⟩
  | 12 => ⟨S8192x1024, .i32⟩
  | 13 => ⟨S_, .i32⟩
  | 14 => ⟨S8192, .i32⟩
  | 15 => ⟨S_, .i32⟩
  | 16 => ⟨S8192, .i32⟩
  | 17 => ⟨S8192, .i1⟩
  | 18 => ⟨S_, .i32⟩
  | 19 => ⟨S8192, .i32⟩
  | 20 => ⟨S8192, .i32⟩
  | 21 => ⟨S8192, .i32⟩
  | 22 => ⟨S8192x1, .i32⟩
  | 23 => ⟨S1, .i32⟩
  | 24 => ⟨S_, .i32⟩
  | 25 => ⟨S8192x1, .i32⟩
  | 26 => ⟨S8192x1, .i1⟩
  | 27 => ⟨S1x1, .i32⟩
  | 28 => ⟨S8192x1, .i32⟩
  | 29 => ⟨S8192x1, .i1⟩
  | 30 => ⟨S8192x1, .i1⟩
  | 31 => ⟨S_, .i1⟩
  | 32 => ⟨S8192, .i1⟩
  | 33 => ⟨S8192x512, .f32⟩
  | 34 => ⟨S8192x512, .i1⟩
  | 35 => ⟨S_, .f32⟩
  | 36 => ⟨S8192x512, .f32⟩
  | 37 => ⟨S8192x512, .f32⟩
  | 38 => ⟨S16x512x512, .f32⟩
  | 39 => ⟨S16x512x512, .f32⟩
  | 40 => ⟨S16x512x512, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S16x512x512, .f32⟩
  | 48 => ⟨S16x512x512, .f32⟩
  | 49 => ⟨S16x512x512, .f32⟩
  | 50 => ⟨S16x512x512, .f32⟩
  | 51 => ⟨S16x512, .i32⟩
  | 52 => ⟨S16x512x1, .i32⟩
  | 53 => ⟨S16x512x1, .i32⟩
  | 54 => ⟨S16x512x1, .i32⟩
  | 55 => ⟨S16x512x1, .i32⟩
  | 56 => ⟨S16x512x1, .i32⟩
  | 57 => ⟨S16x512x1, .i32⟩
  | 58 => ⟨S16x512x1, .i32⟩
  | 59 => ⟨S16x512x1, .i32⟩
  | 60 => ⟨S16x512x8, .i32⟩
  | 61 => ⟨S1, .f32⟩
  | 62 => ⟨S1, .f32⟩
  | 63 => ⟨S1, .f32⟩
  | 64 => ⟨S1, .f32⟩
  | 65 => ⟨S1, .f32⟩
  | 66 => ⟨S1, .f32⟩
  | 67 => ⟨S1, .f32⟩
  | 68 => ⟨S1, .f32⟩
  | 69 => ⟨S8, .f32⟩
  | 70 => ⟨S_, .f32⟩
  | 71 => ⟨S_, .f32⟩
  | _ => ⟨S16x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x512x512, .f32⟩

abbrev bufTy : (tb : Table) → Fin (tcTables nBuf tb) → BufTy
  | .hbm, ⟨i, _⟩ => hbmTy i
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_cst_6 : Ref sig .tc := ⟨.hbm, 65, rfl⟩
abbrev main_v30 : Ref sig .tc := ⟨.hbm, 66, rfl⟩
abbrev main_cst_7 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_8 : Ref sig .tc := ⟨.hbm, 78, rfl⟩
abbrev main_v41 : Ref sig .tc := ⟨.hbm, 79, rfl⟩
abbrev main_v42 : Ref sig .tc := ⟨.hbm, 80, rfl⟩
abbrev main_cst_9 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_10 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_cst_11 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_c_12 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_v59 : Ref sig .tc := ⟨.hbm, 104, rfl⟩
abbrev main_c_13 : Ref sig .tc := ⟨.hbm, 105, rfl⟩
abbrev main_v60 : Ref sig .tc := ⟨.hbm, 106, rfl⟩
abbrev main_call3_c : Ref sig .tc := ⟨.hbm, 107, rfl⟩
abbrev main_call3_v0 : Ref sig .tc := ⟨.hbm, 108, rfl⟩
abbrev main_call3_v1 : Ref sig .tc := ⟨.hbm, 109, rfl⟩
abbrev main_call3_c_0 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_v5 : Ref sig .tc := ⟨.hbm, 114, rfl⟩
abbrev main_call3_c_1 : Ref sig .tc := ⟨.hbm, 115, rfl⟩
abbrev main_call3_c_2 : Ref sig .tc := ⟨.hbm, 116, rfl⟩
abbrev main_call3_v6 : Ref sig .tc := ⟨.hbm, 117, rfl⟩
abbrev main_call3_v7 : Ref sig .tc := ⟨.hbm, 118, rfl⟩
abbrev main_call3_v8 : Ref sig .tc := ⟨.hbm, 119, rfl⟩
abbrev main_call3_v9 : Ref sig .tc := ⟨.hbm, 120, rfl⟩
abbrev main_call3_v10 : Ref sig .tc := ⟨.hbm, 121, rfl⟩
abbrev main_call3_v11 : Ref sig .tc := ⟨.hbm, 122, rfl⟩
abbrev main_call3_c_3 : Ref sig .tc := ⟨.hbm, 123, rfl⟩
abbrev main_call3_v12 : Ref sig .tc := ⟨.hbm, 124, rfl⟩
abbrev main_call3_v13 : Ref sig .tc := ⟨.hbm, 125, rfl⟩
abbrev main_call3_v14 : Ref sig .tc := ⟨.hbm, 126, rfl⟩
abbrev main_call3_cst : Ref sig .tc := ⟨.hbm, 127, rfl⟩
abbrev main_call3_v15 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_cst_14 : Ref sig .tc := ⟨.hbm, 133, rfl⟩
abbrev main_v65 : Ref sig .tc := ⟨.hbm, 134, rfl⟩
abbrev main_cst_15 : Ref sig .tc := ⟨.hbm, 135, rfl⟩
abbrev main_v66 : Ref sig .tc := ⟨.hbm, 136, rfl⟩
abbrev main_cst_16 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_cst_17 : Ref sig .tc := ⟨.hbm, 148, rfl⟩
abbrev main_v77 : Ref sig .tc := ⟨.hbm, 149, rfl⟩
abbrev main_v78 : Ref sig .tc := ⟨.hbm, 150, rfl⟩
abbrev main_cst_18 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_cst_19 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_cst_20 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_c_21 : Ref sig .tc := ⟨.hbm, 170, rfl⟩
abbrev main_call4_v0 : Ref sig .tc := ⟨.hbm, 171, rfl⟩
abbrev main_call4_v1 : Ref sig .tc := ⟨.hbm, 172, rfl⟩
abbrev main_call4_v2 : Ref sig .tc := ⟨.hbm, 173, rfl⟩
abbrev main_v95 : Ref sig .tc := ⟨.hbm, 174, rfl⟩
abbrev main_c_22 : Ref sig .tc := ⟨.hbm, 175, rfl⟩
abbrev main_v96 : Ref sig .tc := ⟨.hbm, 176, rfl⟩
abbrev main_call5_c : Ref sig .tc := ⟨.hbm, 177, rfl⟩
abbrev main_call5_v0 : Ref sig .tc := ⟨.hbm, 178, rfl⟩
abbrev main_call5_v1 : Ref sig .tc := ⟨.hbm, 179, rfl⟩
abbrev main_call5_c_0 : Ref sig .tc := ⟨.hbm, 180, rfl⟩
abbrev main_call5_v2 : Ref sig .tc := ⟨.hbm, 181, rfl⟩
abbrev main_call5_v3 : Ref sig .tc := ⟨.hbm, 182, rfl⟩
abbrev main_call5_v4 : Ref sig .tc := ⟨.hbm, 183, rfl⟩
abbrev main_call5_v5 : Ref sig .tc := ⟨.hbm, 184, rfl⟩
abbrev main_call5_c_1 : Ref sig .tc := ⟨.hbm, 185, rfl⟩
abbrev main_call5_c_2 : Ref sig .tc := ⟨.hbm, 186, rfl⟩
abbrev main_call5_v6 : Ref sig .tc := ⟨.hbm, 187, rfl⟩
abbrev main_call5_v7 : Ref sig .tc := ⟨.hbm, 188, rfl⟩
abbrev main_call5_v8 : Ref sig .tc := ⟨.hbm, 189, rfl⟩
abbrev main_call5_v9 : Ref sig .tc := ⟨.hbm, 190, rfl⟩
abbrev main_call5_v10 : Ref sig .tc := ⟨.hbm, 191, rfl⟩
abbrev main_call5_v11 : Ref sig .tc := ⟨.hbm, 192, rfl⟩
abbrev main_call5_c_3 : Ref sig .tc := ⟨.hbm, 193, rfl⟩
abbrev main_call5_v12 : Ref sig .tc := ⟨.hbm, 194, rfl⟩
abbrev main_call5_v13 : Ref sig .tc := ⟨.hbm, 195, rfl⟩
abbrev main_call5_v14 : Ref sig .tc := ⟨.hbm, 196, rfl⟩
abbrev main_call5_cst : Ref sig .tc := ⟨.hbm, 197, rfl⟩
abbrev main_call5_v15 : Ref sig .tc := ⟨.hbm, 198, rfl⟩
abbrev main_v97 : Ref sig .tc := ⟨.hbm, 199, rfl⟩
abbrev main_v98 : Ref sig .tc := ⟨.hbm, 200, rfl⟩
abbrev main_v99 : Ref sig .tc := ⟨.hbm, 201, rfl⟩
abbrev main_v100 : Ref sig .tc := ⟨.hbm, 202, rfl⟩
abbrev main_cst_23 : Ref sig .tc := ⟨.hbm, 203, rfl⟩
abbrev main_v101 : Ref sig .tc := ⟨.hbm, 204, rfl⟩
abbrev main_cst_24 : Ref sig .tc := ⟨.hbm, 205, rfl⟩
abbrev main_v102 : Ref sig .tc := ⟨.hbm, 206, rfl⟩
abbrev main_cst_25 : Ref sig .tc := ⟨.hbm, 207, rfl⟩
abbrev main_v103 : Ref sig .tc := ⟨.hbm, 208, rfl⟩
abbrev main_v104 : Ref sig .tc := ⟨.hbm, 209, rfl⟩
abbrev main_v105 : Ref sig .tc := ⟨.hbm, 210, rfl⟩
abbrev main_v106 : Ref sig .tc := ⟨.hbm, 211, rfl⟩
abbrev main_v107 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_cst_26 : Ref sig .tc := ⟨.hbm, 218, rfl⟩
abbrev main_v113 : Ref sig .tc := ⟨.hbm, 219, rfl⟩
abbrev main_v114 : Ref sig .tc := ⟨.hbm, 220, rfl⟩
abbrev main_cst_27 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_v119 : Ref sig .tc := ⟨.hbm, 226, rfl⟩
abbrev main_v120 : Ref sig .tc := ⟨.hbm, 227, rfl⟩
abbrev main_v121 : Ref sig .tc := ⟨.hbm, 228, rfl⟩
abbrev main_cst_28 : Ref sig .tc := ⟨.hbm, 229, rfl⟩
abbrev main_v122 : Ref sig .tc := ⟨.hbm, 230, rfl⟩
abbrev main_v123 : Ref sig .tc := ⟨.hbm, 231, rfl⟩
abbrev main_v124 : Ref sig .tc := ⟨.hbm, 232, rfl⟩
abbrev main_v125 : Ref sig .tc := ⟨.hbm, 233, rfl⟩
abbrev main_cst_29 : Ref sig .tc := ⟨.hbm, 234, rfl⟩
abbrev main_v126 : Ref sig .tc := ⟨.hbm, 235, rfl⟩
abbrev main_v127 : Ref sig .tc := ⟨.hbm, 236, rfl⟩
abbrev main_v128 : Ref sig .tc := ⟨.hbm, 237, rfl⟩
abbrev main_v129 : Ref sig .tc := ⟨.hbm, 238, rfl⟩
abbrev main_v130 : Ref sig .tc := ⟨.hbm, 239, rfl⟩
abbrev main_c_30 : Ref sig .tc := ⟨.hbm, 240, rfl⟩
abbrev main_call6_v0 : Ref sig .tc := ⟨.hbm, 241, rfl⟩
abbrev main_call6_v1 : Ref sig .tc := ⟨.hbm, 242, rfl⟩
abbrev main_call6_v2 : Ref sig .tc := ⟨.hbm, 243, rfl⟩
abbrev main_v131 : Ref sig .tc := ⟨.hbm, 244, rfl⟩
abbrev main_c_31 : Ref sig .tc := ⟨.hbm, 245, rfl⟩
abbrev main_v132 : Ref sig .tc := ⟨.hbm, 246, rfl⟩
abbrev main_call7_c : Ref sig .tc := ⟨.hbm, 247, rfl⟩
abbrev main_call7_v0 : Ref sig .tc := ⟨.hbm, 248, rfl⟩
abbrev main_call7_v1 : Ref sig .tc := ⟨.hbm, 249, rfl⟩
abbrev main_call7_c_0 : Ref sig .tc := ⟨.hbm, 250, rfl⟩
abbrev main_call7_v2 : Ref sig .tc := ⟨.hbm, 251, rfl⟩
abbrev main_call7_v3 : Ref sig .tc := ⟨.hbm, 252, rfl⟩
abbrev main_call7_v4 : Ref sig .tc := ⟨.hbm, 253, rfl⟩
abbrev main_call7_v5 : Ref sig .tc := ⟨.hbm, 254, rfl⟩
abbrev main_call7_c_1 : Ref sig .tc := ⟨.hbm, 255, rfl⟩
abbrev main_call7_c_2 : Ref sig .tc := ⟨.hbm, 256, rfl⟩
abbrev main_call7_v6 : Ref sig .tc := ⟨.hbm, 257, rfl⟩
abbrev main_call7_v7 : Ref sig .tc := ⟨.hbm, 258, rfl⟩
abbrev main_call7_v8 : Ref sig .tc := ⟨.hbm, 259, rfl⟩
abbrev main_call7_v9 : Ref sig .tc := ⟨.hbm, 260, rfl⟩
abbrev main_call7_v10 : Ref sig .tc := ⟨.hbm, 261, rfl⟩
abbrev main_call7_v11 : Ref sig .tc := ⟨.hbm, 262, rfl⟩
abbrev main_call7_c_3 : Ref sig .tc := ⟨.hbm, 263, rfl⟩
abbrev main_call7_v12 : Ref sig .tc := ⟨.hbm, 264, rfl⟩
abbrev main_call7_v13 : Ref sig .tc := ⟨.hbm, 265, rfl⟩
abbrev main_call7_v14 : Ref sig .tc := ⟨.hbm, 266, rfl⟩
abbrev main_call7_cst : Ref sig .tc := ⟨.hbm, 267, rfl⟩
abbrev main_call7_v15 : Ref sig .tc := ⟨.hbm, 268, rfl⟩
abbrev main_v133 : Ref sig .tc := ⟨.hbm, 269, rfl⟩
abbrev main_v134 : Ref sig .tc := ⟨.hbm, 270, rfl⟩
abbrev main_v135 : Ref sig .tc := ⟨.hbm, 271, rfl⟩
abbrev main_v136 : Ref sig .tc := ⟨.hbm, 272, rfl⟩
abbrev main_cst_32 : Ref sig .tc := ⟨.hbm, 273, rfl⟩
abbrev main_v137 : Ref sig .tc := ⟨.hbm, 274, rfl⟩
abbrev main_cst_33 : Ref sig .tc := ⟨.hbm, 275, rfl⟩
abbrev main_v138 : Ref sig .tc := ⟨.hbm, 276, rfl⟩
abbrev main_cst_34 : Ref sig .tc := ⟨.hbm, 277, rfl⟩
abbrev main_v139 : Ref sig .tc := ⟨.hbm, 278, rfl⟩
abbrev main_v140 : Ref sig .tc := ⟨.hbm, 279, rfl⟩
abbrev main_v141 : Ref sig .tc := ⟨.hbm, 280, rfl⟩
abbrev main_v142 : Ref sig .tc := ⟨.hbm, 281, rfl⟩
abbrev main_v143 : Ref sig .tc := ⟨.hbm, 282, rfl⟩
abbrev main_v144 : Ref sig .tc := ⟨.hbm, 283, rfl⟩
abbrev main_v145 : Ref sig .tc := ⟨.hbm, 284, rfl⟩
abbrev main_v146 : Ref sig .tc := ⟨.hbm, 285, rfl⟩
abbrev main_v147 : Ref sig .tc := ⟨.hbm, 286, rfl⟩
abbrev main_v148 : Ref sig .tc := ⟨.hbm, 287, rfl⟩
abbrev main_cst_35 : Ref sig .tc := ⟨.hbm, 288, rfl⟩
abbrev main_v149 : Ref sig .tc := ⟨.hbm, 289, rfl⟩
abbrev main_v150 : Ref sig .tc := ⟨.hbm, 290, rfl⟩
abbrev main_cst_36 : Ref sig .tc := ⟨.hbm, 291, rfl⟩
abbrev main_v151 : Ref sig .tc := ⟨.hbm, 292, rfl⟩
abbrev main_v152 : Ref sig .tc := ⟨.hbm, 293, rfl⟩
abbrev main_v153 : Ref sig .tc := ⟨.hbm, 294, rfl⟩
abbrev main_v154 : Ref sig .tc := ⟨.hbm, 295, rfl⟩
abbrev main_v155 : Ref sig .tc := ⟨.hbm, 296, rfl⟩
abbrev main_v156 : Ref sig .tc := ⟨.hbm, 297, rfl⟩
abbrev main_v157 : Ref sig .tc := ⟨.hbm, 298, rfl⟩
abbrev main_cst_37 : Ref sig .tc := ⟨.hbm, 299, rfl⟩
abbrev main_v158 : Ref sig .tc := ⟨.hbm, 300, rfl⟩
abbrev main_v159 : Ref sig .tc := ⟨.hbm, 301, rfl⟩
abbrev main_v160 : Ref sig .tc := ⟨.hbm, 302, rfl⟩
abbrev main_v161 : Ref sig .tc := ⟨.hbm, 303, rfl⟩
abbrev main_cst_38 : Ref sig .tc := ⟨.hbm, 304, rfl⟩
abbrev main_v162 : Ref sig .tc := ⟨.hbm, 305, rfl⟩
abbrev main_v163 : Ref sig .tc := ⟨.hbm, 306, rfl⟩
abbrev main_v164 : Ref sig .tc := ⟨.hbm, 307, rfl⟩
abbrev main_v165 : Ref sig .tc := ⟨.hbm, 308, rfl⟩
abbrev main_v166 : Ref sig .tc := ⟨.hbm, 309, rfl⟩
abbrev main_c_39 : Ref sig .tc := ⟨.hbm, 310, rfl⟩
abbrev main_call8_v0 : Ref sig .tc := ⟨.hbm, 311, rfl⟩
abbrev main_call8_v1 : Ref sig .tc := ⟨.hbm, 312, rfl⟩
abbrev main_call8_v2 : Ref sig .tc := ⟨.hbm, 313, rfl⟩
abbrev main_v167 : Ref sig .tc := ⟨.hbm, 314, rfl⟩
abbrev main_c_40 : Ref sig .tc := ⟨.hbm, 315, rfl⟩
abbrev main_v168 : Ref sig .tc := ⟨.hbm, 316, rfl⟩
abbrev main_call9_c : Ref sig .tc := ⟨.hbm, 317, rfl⟩
abbrev main_call9_v0 : Ref sig .tc := ⟨.hbm, 318, rfl⟩
abbrev main_call9_v1 : Ref sig .tc := ⟨.hbm, 319, rfl⟩
abbrev main_call9_c_0 : Ref sig .tc := ⟨.hbm, 320, rfl⟩
abbrev main_call9_v2 : Ref sig .tc := ⟨.hbm, 321, rfl⟩
abbrev main_call9_v3 : Ref sig .tc := ⟨.hbm, 322, rfl⟩
abbrev main_call9_v4 : Ref sig .tc := ⟨.hbm, 323, rfl⟩
abbrev main_call9_v5 : Ref sig .tc := ⟨.hbm, 324, rfl⟩
abbrev main_call9_c_1 : Ref sig .tc := ⟨.hbm, 325, rfl⟩
abbrev main_call9_c_2 : Ref sig .tc := ⟨.hbm, 326, rfl⟩
abbrev main_call9_v6 : Ref sig .tc := ⟨.hbm, 327, rfl⟩
abbrev main_call9_v7 : Ref sig .tc := ⟨.hbm, 328, rfl⟩
abbrev main_call9_v8 : Ref sig .tc := ⟨.hbm, 329, rfl⟩
abbrev main_call9_v9 : Ref sig .tc := ⟨.hbm, 330, rfl⟩
abbrev main_call9_v10 : Ref sig .tc := ⟨.hbm, 331, rfl⟩
abbrev main_call9_v11 : Ref sig .tc := ⟨.hbm, 332, rfl⟩
abbrev main_call9_c_3 : Ref sig .tc := ⟨.hbm, 333, rfl⟩
abbrev main_call9_v12 : Ref sig .tc := ⟨.hbm, 334, rfl⟩
abbrev main_call9_v13 : Ref sig .tc := ⟨.hbm, 335, rfl⟩
abbrev main_call9_v14 : Ref sig .tc := ⟨.hbm, 336, rfl⟩
abbrev main_call9_cst : Ref sig .tc := ⟨.hbm, 337, rfl⟩
abbrev main_call9_v15 : Ref sig .tc := ⟨.hbm, 338, rfl⟩
abbrev main_v169 : Ref sig .tc := ⟨.hbm, 339, rfl⟩
abbrev main_v170 : Ref sig .tc := ⟨.hbm, 340, rfl⟩
abbrev main_v171 : Ref sig .tc := ⟨.hbm, 341, rfl⟩
abbrev main_v172 : Ref sig .tc := ⟨.hbm, 342, rfl⟩
abbrev main_cst_41 : Ref sig .tc := ⟨.hbm, 343, rfl⟩
abbrev main_v173 : Ref sig .tc := ⟨.hbm, 344, rfl⟩
abbrev main_cst_42 : Ref sig .tc := ⟨.hbm, 345, rfl⟩
abbrev main_v174 : Ref sig .tc := ⟨.hbm, 346, rfl⟩
abbrev main_cst_43 : Ref sig .tc := ⟨.hbm, 347, rfl⟩
abbrev main_v175 : Ref sig .tc := ⟨.hbm, 348, rfl⟩
abbrev main_v176 : Ref sig .tc := ⟨.hbm, 349, rfl⟩
abbrev main_v177 : Ref sig .tc := ⟨.hbm, 350, rfl⟩
abbrev main_v178 : Ref sig .tc := ⟨.hbm, 351, rfl⟩
abbrev main_v179 : Ref sig .tc := ⟨.hbm, 352, rfl⟩
abbrev main_v180 : Ref sig .tc := ⟨.hbm, 353, rfl⟩
abbrev main_v181 : Ref sig .tc := ⟨.hbm, 354, rfl⟩
abbrev main_v182 : Ref sig .tc := ⟨.hbm, 355, rfl⟩
abbrev main_v183 : Ref sig .tc := ⟨.hbm, 356, rfl⟩
abbrev main_v184 : Ref sig .tc := ⟨.hbm, 357, rfl⟩
abbrev main_cst_44 : Ref sig .tc := ⟨.hbm, 358, rfl⟩
abbrev main_v185 : Ref sig .tc := ⟨.hbm, 359, rfl⟩
abbrev main_v186 : Ref sig .tc := ⟨.hbm, 360, rfl⟩
abbrev main_cst_45 : Ref sig .tc := ⟨.hbm, 361, rfl⟩
abbrev main_v187 : Ref sig .tc := ⟨.hbm, 362, rfl⟩
abbrev main_v188 : Ref sig .tc := ⟨.hbm, 363, rfl⟩
abbrev main_v189 : Ref sig .tc := ⟨.hbm, 364, rfl⟩
abbrev main_v190 : Ref sig .tc := ⟨.hbm, 365, rfl⟩
abbrev main_v191 : Ref sig .tc := ⟨.hbm, 366, rfl⟩
abbrev main_v192 : Ref sig .tc := ⟨.hbm, 367, rfl⟩
abbrev main_v193 : Ref sig .tc := ⟨.hbm, 368, rfl⟩
abbrev main_cst_46 : Ref sig .tc := ⟨.hbm, 369, rfl⟩
abbrev main_v194 : Ref sig .tc := ⟨.hbm, 370, rfl⟩
abbrev main_v195 : Ref sig .tc := ⟨.hbm, 371, rfl⟩
abbrev main_v196 : Ref sig .tc := ⟨.hbm, 372, rfl⟩
abbrev main_v197 : Ref sig .tc := ⟨.hbm, 373, rfl⟩
abbrev main_cst_47 : Ref sig .tc := ⟨.hbm, 374, rfl⟩
abbrev main_v198 : Ref sig .tc := ⟨.hbm, 375, rfl⟩
abbrev main_v199 : Ref sig .tc := ⟨.hbm, 376, rfl⟩
abbrev main_v200 : Ref sig .tc := ⟨.hbm, 377, rfl⟩
abbrev main_v201 : Ref sig .tc := ⟨.hbm, 378, rfl⟩
abbrev main_v202 : Ref sig .tc := ⟨.hbm, 379, rfl⟩
abbrev main_c_48 : Ref sig .tc := ⟨.hbm, 380, rfl⟩
abbrev main_call10_v0 : Ref sig .tc := ⟨.hbm, 381, rfl⟩
abbrev main_call10_v1 : Ref sig .tc := ⟨.hbm, 382, rfl⟩
abbrev main_call10_v2 : Ref sig .tc := ⟨.hbm, 383, rfl⟩
abbrev main_v203 : Ref sig .tc := ⟨.hbm, 384, rfl⟩
abbrev main_c_49 : Ref sig .tc := ⟨.hbm, 385, rfl⟩
abbrev main_v204 : Ref sig .tc := ⟨.hbm, 386, rfl⟩
abbrev main_call11_c : Ref sig .tc := ⟨.hbm, 387, rfl⟩
abbrev main_call11_v0 : Ref sig .tc := ⟨.hbm, 388, rfl⟩
abbrev main_call11_v1 : Ref sig .tc := ⟨.hbm, 389, rfl⟩
abbrev main_call11_c_0 : Ref sig .tc := ⟨.hbm, 390, rfl⟩
abbrev main_call11_v2 : Ref sig .tc := ⟨.hbm, 391, rfl⟩
abbrev main_call11_v3 : Ref sig .tc := ⟨.hbm, 392, rfl⟩
abbrev main_call11_v4 : Ref sig .tc := ⟨.hbm, 393, rfl⟩
abbrev main_call11_v5 : Ref sig .tc := ⟨.hbm, 394, rfl⟩
abbrev main_call11_c_1 : Ref sig .tc := ⟨.hbm, 395, rfl⟩
abbrev main_call11_c_2 : Ref sig .tc := ⟨.hbm, 396, rfl⟩
abbrev main_call11_v6 : Ref sig .tc := ⟨.hbm, 397, rfl⟩
abbrev main_call11_v7 : Ref sig .tc := ⟨.hbm, 398, rfl⟩
abbrev main_call11_v8 : Ref sig .tc := ⟨.hbm, 399, rfl⟩
abbrev main_call11_v9 : Ref sig .tc := ⟨.hbm, 400, rfl⟩
abbrev main_call11_v10 : Ref sig .tc := ⟨.hbm, 401, rfl⟩
abbrev main_call11_v11 : Ref sig .tc := ⟨.hbm, 402, rfl⟩
abbrev main_call11_c_3 : Ref sig .tc := ⟨.hbm, 403, rfl⟩
abbrev main_call11_v12 : Ref sig .tc := ⟨.hbm, 404, rfl⟩
abbrev main_call11_v13 : Ref sig .tc := ⟨.hbm, 405, rfl⟩
abbrev main_call11_v14 : Ref sig .tc := ⟨.hbm, 406, rfl⟩
abbrev main_call11_cst : Ref sig .tc := ⟨.hbm, 407, rfl⟩
abbrev main_call11_v15 : Ref sig .tc := ⟨.hbm, 408, rfl⟩
abbrev main_v205 : Ref sig .tc := ⟨.hbm, 409, rfl⟩
abbrev main_v206 : Ref sig .tc := ⟨.hbm, 410, rfl⟩
abbrev main_v207 : Ref sig .tc := ⟨.hbm, 411, rfl⟩
abbrev main_v208 : Ref sig .tc := ⟨.hbm, 412, rfl⟩
abbrev main_cst_50 : Ref sig .tc := ⟨.hbm, 413, rfl⟩
abbrev main_v209 : Ref sig .tc := ⟨.hbm, 414, rfl⟩
abbrev main_cst_51 : Ref sig .tc := ⟨.hbm, 415, rfl⟩
abbrev main_v210 : Ref sig .tc := ⟨.hbm, 416, rfl⟩
abbrev main_cst_52 : Ref sig .tc := ⟨.hbm, 417, rfl⟩
abbrev main_v211 : Ref sig .tc := ⟨.hbm, 418, rfl⟩
abbrev main_v212 : Ref sig .tc := ⟨.hbm, 419, rfl⟩
abbrev main_v213 : Ref sig .tc := ⟨.hbm, 420, rfl⟩
abbrev main_v214 : Ref sig .tc := ⟨.hbm, 421, rfl⟩
abbrev main_v215 : Ref sig .tc := ⟨.hbm, 422, rfl⟩
abbrev main_v216 : Ref sig .tc := ⟨.hbm, 423, rfl⟩
abbrev main_v217 : Ref sig .tc := ⟨.hbm, 424, rfl⟩
abbrev main_v218 : Ref sig .tc := ⟨.hbm, 425, rfl⟩
abbrev main_v219 : Ref sig .tc := ⟨.hbm, 426, rfl⟩
abbrev main_v220 : Ref sig .tc := ⟨.hbm, 427, rfl⟩
abbrev main_cst_53 : Ref sig .tc := ⟨.hbm, 428, rfl⟩
abbrev main_v221 : Ref sig .tc := ⟨.hbm, 429, rfl⟩
abbrev main_v222 : Ref sig .tc := ⟨.hbm, 430, rfl⟩
abbrev main_cst_54 : Ref sig .tc := ⟨.hbm, 431, rfl⟩
abbrev main_v223 : Ref sig .tc := ⟨.hbm, 432, rfl⟩
abbrev main_v224 : Ref sig .tc := ⟨.hbm, 433, rfl⟩
abbrev main_v225 : Ref sig .tc := ⟨.hbm, 434, rfl⟩
abbrev main_v226 : Ref sig .tc := ⟨.hbm, 435, rfl⟩
abbrev main_v227 : Ref sig .tc := ⟨.hbm, 436, rfl⟩
abbrev main_v228 : Ref sig .tc := ⟨.hbm, 437, rfl⟩
abbrev main_v229 : Ref sig .tc := ⟨.hbm, 438, rfl⟩
abbrev main_cst_55 : Ref sig .tc := ⟨.hbm, 439, rfl⟩
abbrev main_v230 : Ref sig .tc := ⟨.hbm, 440, rfl⟩
abbrev main_v231 : Ref sig .tc := ⟨.hbm, 441, rfl⟩
abbrev main_v232 : Ref sig .tc := ⟨.hbm, 442, rfl⟩
abbrev main_v233 : Ref sig .tc := ⟨.hbm, 443, rfl⟩
abbrev main_cst_56 : Ref sig .tc := ⟨.hbm, 444, rfl⟩
abbrev main_v234 : Ref sig .tc := ⟨.hbm, 445, rfl⟩
abbrev main_v235 : Ref sig .tc := ⟨.hbm, 446, rfl⟩
abbrev main_v236 : Ref sig .tc := ⟨.hbm, 447, rfl⟩
abbrev main_v237 : Ref sig .tc := ⟨.hbm, 448, rfl⟩
abbrev main_v238 : Ref sig .tc := ⟨.hbm, 449, rfl⟩
abbrev main_c_57 : Ref sig .tc := ⟨.hbm, 450, rfl⟩
abbrev main_call12_v0 : Ref sig .tc := ⟨.hbm, 451, rfl⟩
abbrev main_call12_v1 : Ref sig .tc := ⟨.hbm, 452, rfl⟩
abbrev main_call12_v2 : Ref sig .tc := ⟨.hbm, 453, rfl⟩
abbrev main_v239 : Ref sig .tc := ⟨.hbm, 454, rfl⟩
abbrev main_c_58 : Ref sig .tc := ⟨.hbm, 455, rfl⟩
abbrev main_v240 : Ref sig .tc := ⟨.hbm, 456, rfl⟩
abbrev main_call13_c : Ref sig .tc := ⟨.hbm, 457, rfl⟩
abbrev main_call13_v0 : Ref sig .tc := ⟨.hbm, 458, rfl⟩
abbrev main_call13_v1 : Ref sig .tc := ⟨.hbm, 459, rfl⟩
abbrev main_call13_c_0 : Ref sig .tc := ⟨.hbm, 460, rfl⟩
abbrev main_call13_v2 : Ref sig .tc := ⟨.hbm, 461, rfl⟩
abbrev main_call13_v3 : Ref sig .tc := ⟨.hbm, 462, rfl⟩
abbrev main_call13_v4 : Ref sig .tc := ⟨.hbm, 463, rfl⟩
abbrev main_call13_v5 : Ref sig .tc := ⟨.hbm, 464, rfl⟩
abbrev main_call13_c_1 : Ref sig .tc := ⟨.hbm, 465, rfl⟩
abbrev main_call13_c_2 : Ref sig .tc := ⟨.hbm, 466, rfl⟩
abbrev main_call13_v6 : Ref sig .tc := ⟨.hbm, 467, rfl⟩
abbrev main_call13_v7 : Ref sig .tc := ⟨.hbm, 468, rfl⟩
abbrev main_call13_v8 : Ref sig .tc := ⟨.hbm, 469, rfl⟩
abbrev main_call13_v9 : Ref sig .tc := ⟨.hbm, 470, rfl⟩
abbrev main_call13_v10 : Ref sig .tc := ⟨.hbm, 471, rfl⟩
abbrev main_call13_v11 : Ref sig .tc := ⟨.hbm, 472, rfl⟩
abbrev main_call13_c_3 : Ref sig .tc := ⟨.hbm, 473, rfl⟩
abbrev main_call13_v12 : Ref sig .tc := ⟨.hbm, 474, rfl⟩
abbrev main_call13_v13 : Ref sig .tc := ⟨.hbm, 475, rfl⟩
abbrev main_call13_v14 : Ref sig .tc := ⟨.hbm, 476, rfl⟩
abbrev main_call13_cst : Ref sig .tc := ⟨.hbm, 477, rfl⟩
abbrev main_call13_v15 : Ref sig .tc := ⟨.hbm, 478, rfl⟩
abbrev main_v241 : Ref sig .tc := ⟨.hbm, 479, rfl⟩
abbrev main_v242 : Ref sig .tc := ⟨.hbm, 480, rfl⟩
abbrev main_v243 : Ref sig .tc := ⟨.hbm, 481, rfl⟩
abbrev main_v244 : Ref sig .tc := ⟨.hbm, 482, rfl⟩
abbrev main_cst_59 : Ref sig .tc := ⟨.hbm, 483, rfl⟩
abbrev main_v245 : Ref sig .tc := ⟨.hbm, 484, rfl⟩
abbrev main_cst_60 : Ref sig .tc := ⟨.hbm, 485, rfl⟩
abbrev main_v246 : Ref sig .tc := ⟨.hbm, 486, rfl⟩
abbrev main_cst_61 : Ref sig .tc := ⟨.hbm, 487, rfl⟩
abbrev main_v247 : Ref sig .tc := ⟨.hbm, 488, rfl⟩
abbrev main_v248 : Ref sig .tc := ⟨.hbm, 489, rfl⟩
abbrev main_v249 : Ref sig .tc := ⟨.hbm, 490, rfl⟩
abbrev main_v250 : Ref sig .tc := ⟨.hbm, 491, rfl⟩
abbrev main_v251 : Ref sig .tc := ⟨.hbm, 492, rfl⟩
abbrev main_v252 : Ref sig .tc := ⟨.hbm, 493, rfl⟩
abbrev main_v253 : Ref sig .tc := ⟨.hbm, 494, rfl⟩
abbrev main_v254 : Ref sig .tc := ⟨.hbm, 495, rfl⟩
abbrev main_v255 : Ref sig .tc := ⟨.hbm, 496, rfl⟩
abbrev main_v256 : Ref sig .tc := ⟨.hbm, 497, rfl⟩
abbrev main_cst_62 : Ref sig .tc := ⟨.hbm, 498, rfl⟩
abbrev main_v257 : Ref sig .tc := ⟨.hbm, 499, rfl⟩
abbrev main_v258 : Ref sig .tc := ⟨.hbm, 500, rfl⟩
abbrev main_cst_63 : Ref sig .tc := ⟨.hbm, 501, rfl⟩
abbrev main_v259 : Ref sig .tc := ⟨.hbm, 502, rfl⟩
abbrev main_v260 : Ref sig .tc := ⟨.hbm, 503, rfl⟩
abbrev main_v261 : Ref sig .tc := ⟨.hbm, 504, rfl⟩
abbrev main_v262 : Ref sig .tc := ⟨.hbm, 505, rfl⟩
abbrev main_v263 : Ref sig .tc := ⟨.hbm, 506, rfl⟩
abbrev main_v264 : Ref sig .tc := ⟨.hbm, 507, rfl⟩
abbrev main_v265 : Ref sig .tc := ⟨.hbm, 508, rfl⟩
abbrev main_cst_64 : Ref sig .tc := ⟨.hbm, 509, rfl⟩
abbrev main_v266 : Ref sig .tc := ⟨.hbm, 510, rfl⟩
abbrev main_v267 : Ref sig .tc := ⟨.hbm, 511, rfl⟩
abbrev main_v268 : Ref sig .tc := ⟨.hbm, 512, rfl⟩
abbrev main_v269 : Ref sig .tc := ⟨.hbm, 513, rfl⟩
abbrev main_cst_65 : Ref sig .tc := ⟨.hbm, 514, rfl⟩
abbrev main_v270 : Ref sig .tc := ⟨.hbm, 515, rfl⟩
abbrev main_v271 : Ref sig .tc := ⟨.hbm, 516, rfl⟩
abbrev main_v272 : Ref sig .tc := ⟨.hbm, 517, rfl⟩
abbrev main_v273 : Ref sig .tc := ⟨.hbm, 518, rfl⟩
abbrev main_v274 : Ref sig .tc := ⟨.hbm, 519, rfl⟩
abbrev main_c_66 : Ref sig .tc := ⟨.hbm, 520, rfl⟩
abbrev main_call14_v0 : Ref sig .tc := ⟨.hbm, 521, rfl⟩
abbrev main_call14_v1 : Ref sig .tc := ⟨.hbm, 522, rfl⟩
abbrev main_call14_v2 : Ref sig .tc := ⟨.hbm, 523, rfl⟩
abbrev main_v275 : Ref sig .tc := ⟨.hbm, 524, rfl⟩
abbrev main_c_67 : Ref sig .tc := ⟨.hbm, 525, rfl⟩
abbrev main_v276 : Ref sig .tc := ⟨.hbm, 526, rfl⟩
abbrev main_call15_c : Ref sig .tc := ⟨.hbm, 527, rfl⟩
abbrev main_call15_v0 : Ref sig .tc := ⟨.hbm, 528, rfl⟩
abbrev main_call15_v1 : Ref sig .tc := ⟨.hbm, 529, rfl⟩
abbrev main_call15_c_0 : Ref sig .tc := ⟨.hbm, 530, rfl⟩
abbrev main_call15_v2 : Ref sig .tc := ⟨.hbm, 531, rfl⟩
abbrev main_call15_v3 : Ref sig .tc := ⟨.hbm, 532, rfl⟩
abbrev main_call15_v4 : Ref sig .tc := ⟨.hbm, 533, rfl⟩
abbrev main_call15_v5 : Ref sig .tc := ⟨.hbm, 534, rfl⟩
abbrev main_call15_c_1 : Ref sig .tc := ⟨.hbm, 535, rfl⟩
abbrev main_call15_c_2 : Ref sig .tc := ⟨.hbm, 536, rfl⟩
abbrev main_call15_v6 : Ref sig .tc := ⟨.hbm, 537, rfl⟩
abbrev main_call15_v7 : Ref sig .tc := ⟨.hbm, 538, rfl⟩
abbrev main_call15_v8 : Ref sig .tc := ⟨.hbm, 539, rfl⟩
abbrev main_call15_v9 : Ref sig .tc := ⟨.hbm, 540, rfl⟩
abbrev main_call15_v10 : Ref sig .tc := ⟨.hbm, 541, rfl⟩
abbrev main_call15_v11 : Ref sig .tc := ⟨.hbm, 542, rfl⟩
abbrev main_call15_c_3 : Ref sig .tc := ⟨.hbm, 543, rfl⟩
abbrev main_call15_v12 : Ref sig .tc := ⟨.hbm, 544, rfl⟩
abbrev main_call15_v13 : Ref sig .tc := ⟨.hbm, 545, rfl⟩
abbrev main_call15_v14 : Ref sig .tc := ⟨.hbm, 546, rfl⟩
abbrev main_call15_cst : Ref sig .tc := ⟨.hbm, 547, rfl⟩
abbrev main_call15_v15 : Ref sig .tc := ⟨.hbm, 548, rfl⟩
abbrev main_v277 : Ref sig .tc := ⟨.hbm, 549, rfl⟩
abbrev main_v278 : Ref sig .tc := ⟨.hbm, 550, rfl⟩
abbrev main_v279 : Ref sig .tc := ⟨.hbm, 551, rfl⟩
abbrev main_v280 : Ref sig .tc := ⟨.hbm, 552, rfl⟩
abbrev main_cst_68 : Ref sig .tc := ⟨.hbm, 553, rfl⟩
abbrev main_v281 : Ref sig .tc := ⟨.hbm, 554, rfl⟩
abbrev main_cst_69 : Ref sig .tc := ⟨.hbm, 555, rfl⟩
abbrev main_v282 : Ref sig .tc := ⟨.hbm, 556, rfl⟩
abbrev main_cst_70 : Ref sig .tc := ⟨.hbm, 557, rfl⟩
abbrev main_v283 : Ref sig .tc := ⟨.hbm, 558, rfl⟩
abbrev main_v284 : Ref sig .tc := ⟨.hbm, 559, rfl⟩
abbrev main_v285 : Ref sig .tc := ⟨.hbm, 560, rfl⟩
abbrev main_v286 : Ref sig .tc := ⟨.hbm, 561, rfl⟩
abbrev main_v287 : Ref sig .tc := ⟨.hbm, 562, rfl⟩
abbrev main_v288 : Ref sig .tc := ⟨.hbm, 563, rfl⟩
abbrev main_v289 : Ref sig .tc := ⟨.hbm, 564, rfl⟩
abbrev main_v290 : Ref sig .tc := ⟨.hbm, 565, rfl⟩
abbrev main_v291 : Ref sig .tc := ⟨.hbm, 566, rfl⟩
abbrev main_v292 : Ref sig .tc := ⟨.hbm, 567, rfl⟩
abbrev main_v293 : Ref sig .tc := ⟨.hbm, 568, rfl⟩
abbrev main_v294 : Ref sig .tc := ⟨.hbm, 569, rfl⟩
abbrev main_v295 : Ref sig .tc := ⟨.hbm, 570, rfl⟩
abbrev main_v296 : Ref sig .tc := ⟨.hbm, 571, rfl⟩
abbrev main_v297 : Ref sig .tc := ⟨.hbm, 572, rfl⟩
abbrev main_v298 : Ref sig .tc := ⟨.hbm, 573, rfl⟩
abbrev main_v299 : Ref sig .tc := ⟨.hbm, 574, rfl⟩
abbrev main_v300 : Ref sig .tc := ⟨.hbm, 575, rfl⟩
abbrev main_v301 : Ref sig .tc := ⟨.hbm, 576, rfl⟩
abbrev main_v302 : Ref sig .tc := ⟨.hbm, 577, rfl⟩
abbrev main_v303 : Ref sig .tc := ⟨.hbm, 578, rfl⟩
abbrev main_v304 : Ref sig .tc := ⟨.hbm, 579, rfl⟩
abbrev main_v305 : Ref sig .tc := ⟨.hbm, 580, rfl⟩
abbrev main_v306 : Ref sig .tc := ⟨.hbm, 581, rfl⟩
abbrev main_cst_71 : Ref sig .tc := ⟨.hbm, 582, rfl⟩
abbrev main_v307 : Ref sig .tc := ⟨.hbm, 583, rfl⟩

abbrev nD : Nat := 1
abbrev τ : Topo := Topo.v7x

variable {F : FTy → Type} [FloatOps F]
-- ==== Proof.Finite.lean ====
module

public import proofs.«01_k».proof.Proof.Gen.Pre_nearest_is_unique
public import Idealize.ShloMosaic.Lib.ReduceAll
public import Idealize.ShloMosaic.Lib.Pointwise

/-! What the precondition says of the codebooks: every entry is a finite number. -/

@[expose] public section

set_option maxRecDepth 16384

noncomputable section

namespace Cert.Pre_nearest_is_unique.Finite

open Idealize Idealize.ShloMosaic Cert.Pre_nearest_is_unique.Gen

/-- The first of the nine tests the precondition joins is the one handed over last. -/
theorem joined_first (b1 b2 b3 b4 b5 b6 b7 b8 : IVec S_ 1) (b : IVec S1 1) :
    fn_part12 (F := Ideal) b1 b2 b3 b4 b5 b6 b7 b8 b (ix1 0) = b (ix1 0) := by
  pointwise [fn_part12]

/-- The test that every codebook entry lies below infinity in absolute value. -/
def allFinite (c : FVec Ideal S8x1024x512 .f32) : IVec S_ 1 :=
  Host.reduce IntOp.andi
    (cmpf .olt (Host.absf c) (broadcastInDim S8x1024x512 ![] bcast_S_S8x1024x512 (constant S_ .f32 0x7F800000#32)))
    (constantI S_ 1 1#1) reducesTo_S8x1024x512_S_d0_1_2 h_S_

/-- The first of the precondition's tests is the test of finiteness. -/
theorem fn_first (x : FVec Ideal S16x512x512 .f32) (c : FVec Ideal S8x1024x512 .f32) :
    fn (F := Ideal) x c (ix1 0) = broadcastInDim S1 ![] bcast_S_S1 (allFinite c) (ix1 0) :=
  (joined_first _ _ _ _ _ _ _ _ _).trans rfl

/-- Where the precondition holds every codebook entry is below infinity in absolute value. -/
theorem entry_lt (x : FVec Ideal S16x512x512 .f32) (c : FVec Ideal S8x1024x512 .f32)
    (h : fn (F := Ideal) x c = fun _ => 1#1) (i : S8x1024x512.Idx) :
    max (c i) (-c i) < (⊤ : EReal) := by
  have h0 := (fn_first x c).symm.trans (congrFun h (ix1 0))
  have : Subsingleton S_.Idx := ⟨fun a b => funext fun k => nomatch k⟩
  have h1 := Host.reduce_andi_all _ _ _ _ _ h0 i
  have h2 : Ideal.cmp .olt (max (c i) (-c i)) (Ideal.ofBits .f32 0x7F800000#32) = 1#1 := h1
  have e : Ideal.ofBits .f32 0x7F800000#32 = (⊤ : EReal) := by
    simp [Ideal.ofBits, Ideal.ieee]
  rw [e] at h2
  by_contra hn
  simp [Ideal.cmp, hn] at h2

/-- A number below infinity in absolute value, less itself, is zero. -/
theorem sub_self_of_lt (a : EReal) (h : max a (-a) < ⊤) : a - a = 0 := by
  have h1 : a ≠ ⊤ := fun e => by simp [e] at h
  have h2 : a ≠ ⊥ := fun e => by simp [e] at h
  exact EReal.sub_self h1 h2

end Cert.Pre_nearest_is_unique.Finite
-- ==== Proof.Math.lean ====
/- The mathematics of residual vector quantisation on one row, over the extended reals: squared distances to the
   entries of a codebook, the first nearest entry, the residuals of the successive stages and the sum of the chosen
   entries. Both programs are compared with these definitions. -/
module

public import Idealize.ShloMosaic.PureOps.Ideal.Laws
public import Idealize.ShloMosaic.PureOps.Reduce

@[expose] public section

noncomputable section

namespace Cert.Rvq

open Idealize.ShloMosaic

/-- One row of the input. -/
abbrev Row := Fin 512 → EReal
/-- One codebook: 1024 rows. -/
abbrev Book := Fin 1024 → Row

/-- The sum of a row's squares. -/
def sqNorm (r : Row) : EReal := ∑ d, r d * r d

/-- The squared distance from `r` to entry `k`, expanded as |r|² - 2 r·c + |c|². -/
def sqDist (cb : Book) (r : Row) (k : Fin 1024) : EReal :=
  (sqNorm r - 2 * ∑ d, r d * cb k d) + sqNorm (cb k)

/-- `k` is the first place where `f` is least. -/
def IsFirstMin {n : ℕ} (f : Fin n → EReal) (k : Fin n) : Prop :=
  (∀ j, f k ≤ f j) ∧ ∀ j, j < k → f k < f j

/-- A function on a nonempty finite range has a first least place. -/
theorem exists_isFirstMin {n : ℕ} (f : Fin (n + 1) → EReal) : ∃ k, IsFirstMin f k := by
  classical
  obtain ⟨k₀, -, hk₀⟩ := Finset.exists_min_image Finset.univ f ⟨0, Finset.mem_univ 0⟩
  have hne : (Finset.univ.filter fun k => ∀ j, f k ≤ f j).Nonempty :=
    ⟨k₀, Finset.mem_filter.2 ⟨Finset.mem_univ _, fun j => hk₀ j (Finset.mem_univ j)⟩⟩
  have hmem := Finset.min'_mem _ hne
  refine ⟨_, (Finset.mem_filter.1 hmem).2, fun j hj => ?_⟩
  by_contra hcon
  have hle : f j ≤ f ((Finset.univ.filter fun k => ∀ j, f k ≤ f j).min' hne) := not_lt.1 hcon
  have hj' : j ∈ Finset.univ.filter fun k => ∀ j, f k ≤ f j :=
    Finset.mem_filter.2 ⟨Finset.mem_univ _, fun i => hle.trans ((Finset.mem_filter.1 hmem).2 i)⟩
  exact absurd hj (not_lt.2 (Finset.min'_le _ _ hj'))

/-- The first least place is unique. -/
theorem IsFirstMin.unique {n : ℕ} {f : Fin n → EReal} {k k' : Fin n} (h : IsFirstMin f k) (h' : IsFirstMin f k') : k = k' := by
  rcases lt_trichotomy k k' with hlt | heq | hgt
  · exact absurd (h'.2 k hlt) (not_lt.2 (h.1 k'))
  · exact heq
  · exact absurd (h.2 k' hgt) (not_lt.2 (h'.1 k))

/-- The first entry of the codebook nearest to `r`. -/
def nearest (cb : Book) (r : Row) : Fin 1024 := (exists_isFirstMin (sqDist cb r)).choose

/-- `nearest` is the first least place of the distances. -/
theorem nearest_spec (cb : Book) (r : Row) : IsFirstMin (sqDist cb r) (nearest cb r) :=
  (exists_isFirstMin (sqDist cb r)).choose_spec

/-- What a stage leaves of a row: the row less its nearest entry. -/
def rest (cb : Book) (r : Row) : Row := fun d => r d - cb (nearest cb r) d

/-- The residual of row `x` before stage `q`. -/
def restN (cbs : ℕ → Book) (x : Row) : ℕ → Row
  | 0 => x
  | q + 1 => rest (cbs q) (restN cbs x q)

/-- The entry that stage `q` chooses for row `x`. -/
def pickN (cbs : ℕ → Book) (x : Row) (q : ℕ) : Fin 1024 := nearest (cbs q) (restN cbs x q)

/-- The sum of the first `q` stages' straight-through values for row `x`. -/
def sumN (cbs : ℕ → Book) (x : Row) : ℕ → Row
  | 0 => fun _ => 0
  | q + 1 => fun d =>
      sumN cbs x q d + (restN cbs x q d + (cbs q (pickN cbs x q) d - restN cbs x q d))

/-- A finite nonnegative factor distributes over a finite sum of extended reals. -/
theorem mul_sum_of_nonneg {ι : Type} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- Doubling every entry of a row doubles its product with another. -/
theorem two_mul_dot (r c : Row) : ∑ d, (2 * r d) * c d = 2 * ∑ d, r d * c d := by
  rw [mul_sum_of_nonneg _ _ (by norm_num) (by exact EReal.coe_ne_top 2)]
  exact Finset.sum_congr rfl fun d _ => mul_assoc _ _ _

/-- The index reduction answers the first least place of what it reads along its axis. -/
theorem reduceIndex_argMin {s t : Shape} {a : Fin s.rank} (h : s.Reduces [a] t) (x : s.Idx → EReal) (j : t.Idx)
    (k : Fin (s.size a)) (hk : IsFirstMin (fun k' => x (h.lift j k')) k) :
    Ideal.reduceIndex .argMin a h x j = BitVec.ofNat 32 k.val := by
  classical
  have hmem : ∀ i : s.Idx, h.drop i = j ↔ ∃ k', h.lift j k' = i := fun i =>
    ⟨fun hi => ⟨i a, by rw [← hi, h.lift_drop]⟩, fun ⟨k', hk'⟩ => by rw [← hk', h.drop_lift]⟩
  have hax : ∀ k', (h.lift j k') a = k' := fun k' => Fin.ext (by rw [h.lift_val]; simp [Shape.Reduces.liftVal])
  unfold Ideal.reduceIndex
  dsimp only
  generalize hS : Finset.image (fun i : s.Idx => (i a).val) _ = S
  have hmin : S.min = ((k.val : ℕ) : WithTop ℕ) := by
    apply le_antisymm
    · apply Finset.min_le
      rw [← hS, Finset.mem_image]
      refine ⟨h.lift j k, Finset.mem_filter.2 ⟨Finset.mem_filter.2 ⟨Finset.mem_univ _, h.drop_lift j k⟩, ?_⟩, by rw [hax]; rfl⟩
      intro i' hi'
      obtain ⟨k', rfl⟩ := (hmem i').1 (Finset.mem_filter.1 hi').2
      simpa using hk.1 k'
    · apply Finset.le_min
      intro v hv
      rw [← hS, Finset.mem_image] at hv
      obtain ⟨i, hi, rfl⟩ := hv
      obtain ⟨hi1, hi2⟩ := Finset.mem_filter.1 hi
      obtain ⟨k', rfl⟩ := (hmem i).1 (Finset.mem_filter.1 hi1).2
      rw [hax]
      have hb := hi2 (h.lift j k) (Finset.mem_filter.2 ⟨Finset.mem_univ _, h.drop_lift j k⟩)
      have hle : x (h.lift j k') ≤ x (h.lift j k) := by simpa using hb
      refine WithTop.coe_le_coe.2 (not_lt.1 fun hlt => ?_)
      exact absurd (hk.2 k' hlt) (not_lt.2 hle)
  rw [hmin]
  rfl

end Cert.Rvq

end
-- ==== Proof.Stage.lean ====
/- One stage of the kernel on one block of 512 rows, as a function of the block and of the stage's codebook arrays, and
   what it holds index by index: the chosen entry is the nearest one, what it leaves is the row less that entry. -/
module

public import proofs.«01_k».proof.Proof.Gen.KernelIdeal
public import proofs.«01_k».proof.Proof.Math
public import Idealize.ShloMosaic.Lib.Pointwise

@[expose] public section

set_option maxRecDepth 16384

noncomputable section

namespace Cert.KernelIdeal.Stage

open Idealize.ShloMosaic Cert.KernelIdeal Cert.Rvq
open Cert.KernelIdeal.Facts₀

/-- The column of the rows' sums of squares. -/
def norm (r : FVec Ideal S512x512 .f32) : FVec Ideal S512x1 .f32 :=
  shapeCast S512x1 (multiReduction .add [1] S512 (mulf r r) 0x00000000#32 reduces_S512x512_S512 (.inl rfl) rfl) shapeCasts_S512_S512x1

/-- The products of the rows with the entries of a codebook. -/
def scores (r : FVec Ideal S512x512 .f32) (c : Vec Ideal S1x1024x512 .bf16) : FVec Ideal S512x1024 .f32 :=
  matmul dot_S512x512_S1024x512_S512x1024_1_1_0_0_n_n none (truncf .bf16 r bitsLt_bf16_f32)
    (shapeCast S1024x512 c shapeCasts_S1x1024x512_S1024x512 : FVec Ideal S1024x512 .bf16) (constant S512x1024 .f32 0x00000000#32)

/-- The squared distances of the rows from the entries. -/
def dists (r : FVec Ideal S512x512 .f32) (c : Vec Ideal S1x1024x512 .bf16) (cn : Vec Ideal S1x1x1024 .f32) :
    FVec Ideal S512x1024 .f32 :=
  addf (subf (broadcastTo S512x1024 (norm r) broadcasts_S512x1_S512x1024)
      (mulf (broadcast S512x1024 (Scalar.ofBits .f32 0x40000000#32)) (scores r c)))
    (broadcastTo S512x1024 (shapeCast S1x1024 cn shapeCasts_S1x1x1024_S1x1024) broadcasts_S1x1024_S512x1024)

/-- The column of the chosen entries' numbers. -/
def pick (r : FVec Ideal S512x512 .f32) (c : Vec Ideal S1x1024x512 .bf16) (cn : Vec Ideal S1x1x1024 .f32) : IVec S512x1 32 :=
  shapeCast S512x1 (reduceIndex .argMin 1 S512 (dists r c cn) reduces_S512x1024_S512) shapeCasts_S512_S512x1

/-- The numbers 0 … 1023 in every row. -/
def lanes : IVec S512x1024 32 := iota .tc S512x1024 32 [1] iota_S512x1024_d1_w32

/-- One at the chosen entry's place of each row, zero elsewhere. -/
def onehot (ix : IVec S512x1 32) : FVec Ideal S512x1024 .bf16 :=
  truncf .bf16 (sitofp .f32 (extui 32 (cmpi .eq lanes (broadcastTo S512x1024 ix broadcasts_S512x1_S512x1024)) natLt_1_32)) bitsLt_bf16_f32

/-- The one-hot rows against the three pieces of the codebook side by side. -/
def wide (ix : IVec S512x1 32) (cc : Vec Ideal S1x1024x1536 .bf16) : FVec Ideal S512x1536 .f32 :=
  matmul dot_S512x1024_S1024x1536_S512x1536_1_0_0_1_n_n none (onehot ix)
    (shapeCast S1024x1536 cc shapeCasts_S1x1024x1536_S1024x1536 : FVec Ideal S1024x1536 .bf16) (constant S512x1536 .f32 0x00000000#32)

/-- The chosen entries: the three pieces added. -/
def fetch (ix : IVec S512x1 32) (cc : Vec Ideal S1x1024x1536 .bf16) : FVec Ideal S512x512 .f32 :=
  addf (addf (extractStridedSlice S512x512 ![0, 0] (wide ix cc) slices_S512x1536_o0_0_S512x512)
      (extractStridedSlice S512x512 ![0, 512] (wide ix cc) slices_S512x1536_o0_512_S512x512))
    (extractStridedSlice S512x512 ![0, 1024] (wide ix cc) slices_S512x1536_o0_1024_S512x512)

/-- The block's total of its rows' sums of squares. -/
def total (r : FVec Ideal S512x512 .f32) : FVec Ideal S1x1 .f32 :=
  broadcast S1x1 (extractAt ![0, 0, 0] (shapeCast S1x1x1 (multiReduction .add [1, 2] S1
    (shapeCast S1x512x1 (norm r) shapeCasts_S512x1_S1x512x1) 0x00000000#32 reduces_S1x512x1_S1 (.inl rfl) rfl)
    shapeCasts_S1_S1x1x1) inpos_S1x1x1_p0_0_0)

/-- Row `i` of a block. -/
def rowOf (r : FVec Ideal S512x512 .f32) (i : Fin 512) : Row := fun d => r (ix2 i d)

theorem norm_apply (r : FVec Ideal S512x512 .f32) (i : Fin 512) (z : Fin 1) : norm r (ix2 i z) = sqNorm (rowOf r i) := by
  pointwise [norm, sqNorm, rowOf]

theorem ofBits_two : Ideal.ofBits .f32 0x40000000#32 = 2 := by
  simp [Ideal.ofBits, Ideal.ieee, -EReal.coe_mul]
  norm_num
  rfl

theorem dists_apply (r : FVec Ideal S512x512 .f32) (c : Vec Ideal S1x1024x512 .bf16) (cn : Vec Ideal S1x1x1024 .f32)
    (cb : Book) (hc : ∀ k d, c (ix3 0 k d) = cb k d) (hn : ∀ k, cn (ix3 0 0 k) = sqNorm (cb k)) (i : Fin 512) (k : Fin 1024) :
    dists r c cn (ix2 i k) = sqDist cb (rowOf r i) k := by
  have h : dists r c cn (ix2 i k)
      = (norm r (ix2 i 0) - Ideal.ofBits .f32 0x40000000#32 * ∑ d, r (ix2 i d) * c (ix3 0 k d)) + cn (ix3 0 0 k) := by
    pointwise [dists, scores]
  rw [h, norm_apply, ofBits_two, hn]
  simp only [hc, sqDist, rowOf]

theorem pick_apply (r : FVec Ideal S512x512 .f32) (c : Vec Ideal S1x1024x512 .bf16) (cn : Vec Ideal S1x1x1024 .f32)
    (cb : Book) (hc : ∀ k d, c (ix3 0 k d) = cb k d) (hn : ∀ k, cn (ix3 0 0 k) = sqNorm (cb k)) (i : Fin 512) (z : Fin 1) :
    pick r c cn (ix2 i z) = BitVec.ofNat 32 (nearest cb (rowOf r i)).val := by
  have h : pick r c cn (ix2 i z) = Ideal.reduceIndex .argMin 1 reduces_S512x1024_S512 (dists r c cn) (ix1 i) := by
    pointwise [pick]
    rfl
  rw [h]
  refine reduceIndex_argMin (a := 1) reduces_S512x1024_S512 (dists r c cn) (ix1 i) (nearest cb (rowOf r i)) ?_
  have e : (fun k' : Fin 1024 => dists r c cn ((reduces_S512x1024_S512).lift (a := (1 : Fin 2)) (ix1 i) k')) = sqDist cb (rowOf r i) := by
    funext k'
    rw [← dists_apply r c cn cb hc hn i k']
    congr 1
    funext a
    fin_cases a <;> rfl
  exact e ▸ nearest_spec cb (rowOf r i)

theorem onehot_apply (ix : IVec S512x1 32) (i : Fin 512) (k : Fin 1024) :
    onehot ix (ix2 i k) = if BitVec.ofNat 32 k.val = ix (ix2 i 0) then 1 else 0 := by
  have h : onehot ix (ix2 i k)
      = FloatOps.sitofp (F := Ideal) .f32 ((IntOp.cmpi .eq (BitVec.ofNat 32 k.val) (ix (ix2 i 0))).setWidth 32) := by
    pointwise [onehot, lanes]
  rw [h]
  by_cases e : BitVec.ofNat 32 k.val = ix (ix2 i 0)
  · rw [if_pos e, e]
    simp [IntOp.cmpi, FloatOps.sitofp]
  · rw [if_neg e]
    have e' : (BitVec.ofNat 32 k.val == ix (ix2 i 0)) = false := by simpa using e
    simp [IntOp.cmpi, FloatOps.sitofp, e']

theorem wide_apply (ix : IVec S512x1 32) (cc : Vec Ideal S1x1024x1536 .bf16) (i : Fin 512) (n : Fin 1024)
    (hix : ix (ix2 i 0) = BitVec.ofNat 32 n.val) (d : Fin 1536) : wide ix cc (ix2 i d) = cc (ix3 0 n d) := by
  have h : wide ix cc (ix2 i d) = ∑ k : Fin 1024, onehot ix (ix2 i k) * cc (ix3 0 k d) := by
    pointwise [wide]
  rw [h, Finset.sum_eq_single n]
  · rw [onehot_apply, if_pos hix.symm, one_mul]
  · intro k _ hk
    rw [onehot_apply, if_neg, zero_mul]
    rw [hix]
    intro e
    have := congrArg BitVec.toNat e
    rw [BitVec.toNat_ofNat, BitVec.toNat_ofNat, Nat.mod_eq_of_lt (by omega), Nat.mod_eq_of_lt (by omega)] at this
    exact hk (Fin.ext this)
  · intro hn; exact absurd (Finset.mem_univ n) hn

theorem fetch_apply (ix : IVec S512x1 32) (cc : Vec Ideal S1x1024x1536 .bf16) (cb : Book)
    (h0 : ∀ k (d : Fin 512), cc (ix3 0 k ⟨d.val, by omega⟩) = cb k d)
    (h1 : ∀ k (d : Fin 512), cc (ix3 0 k ⟨512 + d.val, by omega⟩) = 0)
    (h2 : ∀ k (d : Fin 512), cc (ix3 0 k ⟨1024 + d.val, by omega⟩) = 0)
    (i : Fin 512) (n : Fin 1024) (hix : ix (ix2 i 0) = BitVec.ofNat 32 n.val) (d : Fin 512) :
    fetch ix cc (ix2 i d) = cb n d := by
  have h : fetch ix cc (ix2 i d) = (wide ix cc (ix2 i ⟨d.val, by omega⟩) + wide ix cc (ix2 i ⟨512 + d.val, by omega⟩))
      + wide ix cc (ix2 i ⟨1024 + d.val, by omega⟩) := by
    pointwise [fetch]
  rw [h, wide_apply ix cc i n hix, wide_apply ix cc i n hix, wide_apply ix cc i n hix, h0, h1, h2, add_zero, add_zero]

theorem total_apply (r : FVec Ideal S512x512 .f32) (j : S1x1.Idx) : total r j = ∑ i, sqNorm (rowOf r i) := by
  have h : total r j = ∑ i : Fin 512, norm r (ix2 i 0) := by
    pointwise [total]
    simp
  rw [h]
  exact Finset.sum_congr rfl fun i _ => norm_apply r i 0

end Cert.KernelIdeal.Stage
-- ==== Proof.Chain.lean ====
/- The eight stages of the kernel on one block of 512 rows: the residuals, the choices and the running sum, and what they
   hold row by row when the codebook arrays hold the codebook, its entries' norms and the split of its entries. -/
module

public import proofs.«01_k».proof.Proof.Stage

@[expose] public section

set_option maxRecDepth 16384

noncomputable section

namespace Cert.KernelIdeal.Stage

open Idealize.ShloMosaic Cert.KernelIdeal Cert.Rvq
open Cert.KernelIdeal.Facts₀

/-- The stages' codebooks, as the kernel's products read them. -/
abbrev C1s := ℕ → Vec Ideal S1x1024x512 .bf16
/-- The stages' codebooks in three pieces. -/
abbrev CCs := ℕ → Vec Ideal S1x1024x1536 .bf16
/-- The stages' entry norms. -/
abbrev CNs := ℕ → Vec Ideal S1x1x1024 .f32

/-- The block's residual before stage `q`. -/
def resid (c1 : C1s) (cc : CCs) (cn : CNs) (r : FVec Ideal S512x512 .f32) : ℕ → FVec Ideal S512x512 .f32
  | 0 => r
  | q + 1 => subf (resid c1 cc cn r q) (fetch (pick (resid c1 cc cn r q) (c1 q) (cn q)) (cc q))

/-- The block's choices at stage `q`. -/
def choice (c1 : C1s) (cc : CCs) (cn : CNs) (r : FVec Ideal S512x512 .f32) (q : ℕ) : IVec S512x1 32 :=
  pick (resid c1 cc cn r q) (c1 q) (cn q)

/-- The block's running sum before stage `q`. -/
def acc (c1 : C1s) (cc : CCs) (cn : CNs) (r : FVec Ideal S512x512 .f32) : ℕ → FVec Ideal S512x512 .f32
  | 0 => broadcast S512x512 (Scalar.ofBits .f32 0x00000000#32)
  | q + 1 => addf (acc c1 cc cn r q) (addf (resid c1 cc cn r q)
      (subf (fetch (choice c1 cc cn r q) (cc q)) (resid c1 cc cn r q)))

/-- What the codebook arrays hold: the codebook of each stage, its entries' norms, and each entry followed by zeros. -/
structure Holds (c1 : C1s) (cc : CCs) (cn : CNs) (cbs : ℕ → Book) : Prop where
  c1 : ∀ q k d, c1 q (ix3 0 k d) = cbs q k d
  cn : ∀ q k, cn q (ix3 0 0 k) = sqNorm (cbs q k)
  cc0 : ∀ q k (d : Fin 512), cc q (ix3 0 k ⟨d.val, by omega⟩) = cbs q k d
  cc1 : ∀ q k (d : Fin 512), cc q (ix3 0 k ⟨512 + d.val, by omega⟩) = 0
  cc2 : ∀ q k (d : Fin 512), cc q (ix3 0 k ⟨1024 + d.val, by omega⟩) = 0

variable {c1 : C1s} {cc : CCs} {cn : CNs} {cbs : ℕ → Book} (h : Holds c1 cc cn cbs) (r : FVec Ideal S512x512 .f32)
include h

/-- Each row of the residual before stage `q` is that row's residual. -/
theorem resid_row (i : Fin 512) : ∀ q, rowOf (resid c1 cc cn r q) i = restN cbs (rowOf r i) q
  | 0 => rfl
  | q + 1 => by
    have ih := resid_row i q
    funext d
    show resid c1 cc cn r q (ix2 i d) - fetch (pick (resid c1 cc cn r q) (c1 q) (cn q)) (cc q) (ix2 i d) = _
    rw [fetch_apply _ _ (cbs q) (h.cc0 q) (h.cc1 q) (h.cc2 q) i (nearest (cbs q) (rowOf (resid c1 cc cn r q) i))
      (pick_apply _ _ _ (cbs q) (h.c1 q) (h.cn q) i 0), ih]
    show rowOf (resid c1 cc cn r q) i d - _ = _
    rw [ih]
    rfl

/-- Each choice at stage `q` is the nearest entry's number. -/
theorem choice_apply (q : ℕ) (i : Fin 512) (z : Fin 1) :
    choice c1 cc cn r q (ix2 i z) = BitVec.ofNat 32 (pickN cbs (rowOf r i) q).val := by
  unfold choice
  rw [pick_apply _ _ _ (cbs q) (h.c1 q) (h.cn q), resid_row h r i q]
  rfl

/-- Each row of the running sum before stage `q` is that row's sum. -/
theorem acc_apply (i : Fin 512) (d : Fin 512) : ∀ q, acc c1 cc cn r q (ix2 i d) = sumN cbs (rowOf r i) q d
  | 0 => Ideal.ofBits_zero_f32
  | q + 1 => by
    have ih := acc_apply i d q
    have e : resid c1 cc cn r q (ix2 i d) = restN cbs (rowOf r i) q d := congrFun (resid_row h r i q) d
    show acc c1 cc cn r q (ix2 i d) + (resid c1 cc cn r q (ix2 i d)
      + (fetch (choice c1 cc cn r q) (cc q) (ix2 i d) - resid c1 cc cn r q (ix2 i d))) = _
    rw [ih, e, fetch_apply _ _ (cbs q) (h.cc0 q) (h.cc1 q) (h.cc2 q) i _ (choice_apply h r q i 0)]
    rfl

/-- The total after stage `q` is the sum of the squares of what the stage leaves. -/
theorem total_resid (q : ℕ) (j : S1x1.Idx) :
    total (resid c1 cc cn r (q + 1)) j = ∑ i : Fin 512, sqNorm (restN cbs (rowOf r i) (q + 1)) := by
  rw [total_apply]
  exact Finset.sum_congr rfl fun i _ => by rw [resid_row h r i]

end Cert.KernelIdeal.Stage
-- ==== Proof.Body.lean ====
/- What the kernel's body computes at one grid point, value by value: the values it names are the residuals, choices and
   distances of the eight stages on the two halves of its block. -/
module

public import proofs.«01_k».proof.Proof.Gen.KernelIdeal.Frame
public import proofs.«01_k».proof.Proof.Chain

@[expose] public section

set_option maxRecDepth 16384

noncomputable section

namespace Cert.KernelIdeal.Body

open Idealize.ShloMosaic Cert.KernelIdeal Cert.KernelIdeal.Gen Cert.KernelIdeal.Stage Cert.Rvq

variable (x0 : Vec Ideal S1x1024x512 .f32) (x1 : Vec Ideal S8x1024x512 .bf16) (x2 : Vec Ideal S8x1024x1536 .bf16)
  (x3 : Vec Ideal S8x1x1024 .f32)

/-- The codebook of stage `q` in the staged array. -/
def c1s : C1s
  | 0 => View.ld x1 r0_2 | 1 => View.ld x1 r0_5 | 2 => View.ld x1 r0_8 | 3 => View.ld x1 r0_11
  | 4 => View.ld x1 r0_14 | 5 => View.ld x1 r0_17 | 6 => View.ld x1 r0_20 | _ => View.ld x1 r0_23

/-- The three pieces of stage `q`'s codebook in the staged array. -/
def ccs : CCs
  | 0 => View.ld x2 r0_4 | 1 => View.ld x2 r0_7 | 2 => View.ld x2 r0_10 | 3 => View.ld x2 r0_13
  | 4 => View.ld x2 r0_16 | 5 => View.ld x2 r0_19 | 6 => View.ld x2 r0_22 | _ => View.ld x2 r0_25

/-- The norms of stage `q`'s entries in the staged array. -/
def cns : CNs
  | 0 => View.ld x3 r0_3 | 1 => View.ld x3 r0_6 | 2 => View.ld x3 r0_9 | 3 => View.ld x3 r0_12
  | 4 => View.ld x3 r0_15 | 5 => View.ld x3 r0_18 | 6 => View.ld x3 r0_21 | _ => View.ld x3 r0_24

/-- The first 512 rows of the block. -/
def half0 : FVec Ideal S512x512 .f32 := shapeCast S512x512 (View.ld x0 r0_0) shapeCasts_S1x512x512_S512x512
/-- The last 512 rows of the block. -/
def half1 : FVec Ideal S512x512 .f32 := shapeCast S512x512 (View.ld x0 r0_1) shapeCasts_S1x512x512_S512x512

/-- The first half's residual before stage `q`. -/
def res0 (q : ℕ) := resid (c1s x1) (ccs x2) (cns x3) (half0 x0) q
/-- The second half's residual before stage `q`. -/
def res1 (q : ℕ) := resid (c1s x1) (ccs x2) (cns x3) (half1 x0) q
/-- The first half's choices at stage `q`. -/
def ch0 (q : ℕ) := choice (c1s x1) (ccs x2) (cns x3) (half0 x0) q
/-- The second half's choices at stage `q`. -/
def ch1 (q : ℕ) := choice (c1s x1) (ccs x2) (cns x3) (half1 x0) q

/-- The numbers 0 … 1023 in every row. -/
theorem p121 : k0_pay121 x0 x1 x2 x3 = lanes := by
  unfold k0_pay121; rfl

/-- The first half's residual before stage 0. -/
theorem p122 : k0_pay122 x0 x1 x2 x3 = res0 x0 x1 x2 x3 0 := by
  unfold k0_pay122; rfl

/-- The second half's residual before stage 0. -/
theorem p123 : k0_pay123 x0 x1 x2 x3 = res1 x0 x1 x2 x3 0 := by
  unfold k0_pay123; rfl

/-- Its rows' sums of squares: the second half before stage 0. -/
theorem p124 : k0_pay124 x0 x1 x2 x3 = norm (res1 x0 x1 x2 x3 0) := by
  unfold k0_pay124; rfl

/-- The second half's products with the entries of codebook 0. -/
theorem p125 : k0_pay125 x0 x1 x2 x3 = scores (res1 x0 x1 x2 x3 0) (c1s x1 0) := by
  unfold k0_pay125; rfl

/-- The first half's one-hot rows at stage 0. -/
theorem p126 : k0_pay126 x0 x1 x2 x3 = onehot (ch0 x0 x1 x2 x3 0) := by
  unfold k0_pay126; rfl

/-- The first half's residual before stage 1. -/
theorem p127 : k0_pay127 x0 x1 x2 x3 = res0 x0 x1 x2 x3 1 := by
  unfold k0_pay127; rw [p122, p126]; rfl

/-- Its rows' sums of squares: the first half before stage 1. -/
theorem p128 : k0_pay128 x0 x1 x2 x3 = norm (res0 x0 x1 x2 x3 1) := by
  unfold k0_pay128; rw [p122, p126]; rfl

/-- The second half's residual before stage 1. -/
theorem p129 : k0_pay129 x0 x1 x2 x3 = res1 x0 x1 x2 x3 1 := by
  unfold k0_pay129; rw [p121, p123, p124, p125]; rfl

/-- Its rows' sums of squares: the second half before stage 1. -/
theorem p131 : k0_pay131 x0 x1 x2 x3 = norm (res1 x0 x1 x2 x3 1) := by
  unfold k0_pay131 k0_pay130; rw [p121, p123, p124, p125]; rfl

/-- The second half's products with the entries of codebook 1. -/
theorem p132 : k0_pay132 x0 x1 x2 x3 = scores (res1 x0 x1 x2 x3 1) (c1s x1 1) := by
  unfold k0_pay132; rw [p129]; rfl

/-- The first half's residual before stage 2. -/
theorem p133 : k0_pay133 x0 x1 x2 x3 = res0 x0 x1 x2 x3 2 := by
  unfold k0_pay133; rw [p121, p127, p128]; rfl

/-- The squares of the first half's residual before stage 2. -/
theorem p134 : k0_pay134 x0 x1 x2 x3 = mulf (res0 x0 x1 x2 x3 2) (res0 x0 x1 x2 x3 2) := by
  unfold k0_pay134; rw [p121, p127, p128]; rfl

/-- Its rows' sums of squares: the first half before stage 2. -/
theorem p135 : k0_pay135 x0 x1 x2 x3 = norm (res0 x0 x1 x2 x3 2) := by
  unfold k0_pay135; rw [p134]; rfl

/-- The second half's residual before stage 2. -/
theorem p136 : k0_pay136 x0 x1 x2 x3 = res1 x0 x1 x2 x3 2 := by
  unfold k0_pay136; rw [p121, p129, p131, p132]; rfl

/-- Its rows' sums of squares: the second half before stage 2. -/
theorem p137 : k0_pay137 x0 x1 x2 x3 = norm (res1 x0 x1 x2 x3 2) := by
  unfold k0_pay137; rw [p121, p129, p131, p132]; rfl

/-- The first half's residual before stage 2, in the narrow format. -/
theorem p138 : k0_pay138 x0 x1 x2 x3 = truncf .bf16 (res0 x0 x1 x2 x3 2) bitsLt_bf16_f32 := by
  unfold k0_pay138; rw [p133]; rfl

/-- The second half's products with the entries of codebook 2. -/
theorem p139 : k0_pay139 x0 x1 x2 x3 = scores (res1 x0 x1 x2 x3 2) (c1s x1 2) := by
  unfold k0_pay139; rw [p136]; rfl

/-- The first half's residual before stage 3. -/
theorem p140 : k0_pay140 x0 x1 x2 x3 = res0 x0 x1 x2 x3 3 := by
  unfold k0_pay140; rw [p121, p133, p135, p138]; rfl

/-- Its rows' sums of squares: the first half before stage 3. -/
theorem p141 : k0_pay141 x0 x1 x2 x3 = norm (res0 x0 x1 x2 x3 3) := by
  unfold k0_pay141; rw [p121, p133, p135, p138]; rfl

/-- The second half's residual before stage 3. -/
theorem p142 : k0_pay142 x0 x1 x2 x3 = res1 x0 x1 x2 x3 3 := by
  unfold k0_pay142; rw [p121, p136, p137, p139]; rfl

/-- The first half's products with the entries of codebook 3. -/
theorem p143 : k0_pay143 x0 x1 x2 x3 = scores (res0 x0 x1 x2 x3 3) (c1s x1 3) := by
  unfold k0_pay143; rw [p140]; rfl

/-- The first half's residual before stage 4. -/
theorem p144 : k0_pay144 x0 x1 x2 x3 = res0 x0 x1 x2 x3 4 := by
  unfold k0_pay144; rw [p121, p140, p141, p143]; rfl

/-- The second half's choices at stage 3. -/
theorem p145 : k0_pay145 x0 x1 x2 x3 = ch1 x0 x1 x2 x3 3 := by
  unfold k0_pay145; rw [p121, p136, p137, p139]; rfl

/-- The second half's residual before stage 4. -/
theorem p146 : k0_pay146 x0 x1 x2 x3 = res1 x0 x1 x2 x3 4 := by
  unfold k0_pay146; rw [p121, p142, p145]; rfl

/-- Its rows' sums of squares: the second half before stage 4. -/
theorem p147 : k0_pay147 x0 x1 x2 x3 = norm (res1 x0 x1 x2 x3 4) := by
  unfold k0_pay147; rw [p121, p142, p145]; rfl

/-- The second half's products with the entries of codebook 4. -/
theorem p148 : k0_pay148 x0 x1 x2 x3 = scores (res1 x0 x1 x2 x3 4) (c1s x1 4) := by
  unfold k0_pay148; rw [p121, p142, p145]; rfl

/-- The first half's squared distances at stage 4. -/
theorem p149 : k0_pay149 x0 x1 x2 x3 = dists (res0 x0 x1 x2 x3 4) (c1s x1 4) (cns x3 4) := by
  unfold k0_pay149; rw [p121, p140, p141, p143, p144]; rfl

/-- The first half's residual before stage 5. -/
theorem p150 : k0_pay150 x0 x1 x2 x3 = res0 x0 x1 x2 x3 5 := by
  unfold k0_pay150; rw [p121, p144, p149]; rfl

/-- Its rows' sums of squares: the first half before stage 5. -/
theorem p151 : k0_pay151 x0 x1 x2 x3 = norm (res0 x0 x1 x2 x3 5) := by
  unfold k0_pay151; rw [p121, p144, p149]; rfl

/-- The second half's one-hot rows against the three pieces at stage 4. -/
theorem p152 : k0_pay152 x0 x1 x2 x3 = wide (ch1 x0 x1 x2 x3 4) (ccs x2 4) := by
  unfold k0_pay152; rw [p121, p147, p148]; rfl

/-- The first piece of those products. -/
theorem p153 : k0_pay153 x0 x1 x2 x3 = extractStridedSlice S512x512 ![0, 0] (wide (ch1 x0 x1 x2 x3 4) (ccs x2 4)) slices_S512x1536_o0_0_S512x512 := by
  unfold k0_pay153; rw [p121, p147, p148]; rfl

/-- The second half's residual before stage 5. -/
theorem p155 : k0_pay155 x0 x1 x2 x3 = res1 x0 x1 x2 x3 5 := by
  unfold k0_pay155; rw [p146, p152, p153]; rfl

/-- Its rows' sums of squares: the second half before stage 5. -/
theorem p156 : k0_pay156 x0 x1 x2 x3 = norm (res1 x0 x1 x2 x3 5) := by
  unfold k0_pay156; rw [p146, p152, p153]; rfl

/-- The second half's products with the entries of codebook 5. -/
theorem p157 : k0_pay157 x0 x1 x2 x3 = scores (res1 x0 x1 x2 x3 5) (c1s x1 5) := by
  unfold k0_pay157; rw [p146, p152, p153]; rfl

/-- The first half's one-hot rows at stage 5. -/
theorem p158 : k0_pay158 x0 x1 x2 x3 = onehot (ch0 x0 x1 x2 x3 5) := by
  unfold k0_pay158; rw [p121, p150, p151]; rfl

/-- The first half's residual before stage 6. -/
theorem p160 : k0_pay160 x0 x1 x2 x3 = res0 x0 x1 x2 x3 6 := by
  unfold k0_pay160; rw [p150, p158]; rfl

/-- Its rows' sums of squares: the first half before stage 6. -/
theorem p161 : k0_pay161 x0 x1 x2 x3 = norm (res0 x0 x1 x2 x3 6) := by
  unfold k0_pay161; rw [p150, p158]; rfl

/-- The second half's residual before stage 6. -/
theorem p162 : k0_pay162 x0 x1 x2 x3 = res1 x0 x1 x2 x3 6 := by
  unfold k0_pay162; rw [p121, p155, p156, p157]; rfl

/-- Its rows' sums of squares: the second half before stage 6. -/
theorem p163 : k0_pay163 x0 x1 x2 x3 = norm (res1 x0 x1 x2 x3 6) := by
  unfold k0_pay163; rw [p121, p155, p156, p157]; rfl

/-- The second half's products with the entries of codebook 6. -/
theorem p164 : k0_pay164 x0 x1 x2 x3 = scores (res1 x0 x1 x2 x3 6) (c1s x1 6) := by
  unfold k0_pay164; rw [p162]; rfl

/-- The first half's residual before stage 7. -/
theorem p165 : k0_pay165 x0 x1 x2 x3 = res0 x0 x1 x2 x3 7 := by
  unfold k0_pay165; rw [p121, p160, p161]; rfl

/-- Its rows' sums of squares: the first half before stage 7. -/
theorem p166 : k0_pay166 x0 x1 x2 x3 = norm (res0 x0 x1 x2 x3 7) := by
  unfold k0_pay166; rw [p121, p160, p161]; rfl

/-- The second half's residual before stage 7. -/
theorem p168 : k0_pay168 x0 x1 x2 x3 = res1 x0 x1 x2 x3 7 := by
  unfold k0_pay168; rw [p121, p162, p163, p164]; rfl

/-- The first half's residual before stage 7, in the narrow format. -/
theorem p169 : k0_pay169 x0 x1 x2 x3 = truncf .bf16 (res0 x0 x1 x2 x3 7) bitsLt_bf16_f32 := by
  unfold k0_pay169; rw [p165]; rfl

/-- Eight columns side by side. -/
def cols8 (c : ℕ → IVec S512x1 32) : IVec S512x8 32 :=
  concatenate S512x8 1 [⟨S512x1, c 0⟩, ⟨S512x1, c 1⟩, ⟨S512x1, c 2⟩, ⟨S512x1, c 3⟩, ⟨S512x1, c 4⟩, ⟨S512x1, c 5⟩,
    ⟨S512x1, c 6⟩, ⟨S512x1, c 7⟩] concatenates_S512x1_S512x1_S512x1_S512x1_S512x1_S512x1_S512x1_S512x1_S512x8_d1

/-- Eight numbers one above the other. -/
def rows8 (t : ℕ → FVec Ideal S1x1 .f32) : FVec Ideal S8x1 .f32 :=
  concatenate S8x1 0 [⟨S1x1, t 0⟩, ⟨S1x1, t 1⟩, ⟨S1x1, t 2⟩, ⟨S1x1, t 3⟩, ⟨S1x1, t 4⟩, ⟨S1x1, t 5⟩, ⟨S1x1, t 6⟩,
    ⟨S1x1, t 7⟩] concatenates_S1x1_S1x1_S1x1_S1x1_S1x1_S1x1_S1x1_S1x1_S8x1_d0

/-- Column `q` of eight columns side by side. -/
theorem cols8_apply (c : ℕ → IVec S512x1 32) (i : Fin 512) (q : Fin 8) : cols8 c (ix2 i q) = c q.val (ix2 i 0) := by
  fin_cases q <;> pointwise [cols8]

/-- Number `q` of eight numbers one above the other. -/
theorem rows8_apply (t : ℕ → FVec Ideal S1x1 .f32) (q : Fin 8) (z : Fin 1) : rows8 t (ix2 q z) = t q.val (ix2 0 0) := by
  fin_cases q <;> pointwise [rows8]

/-- The first half's running sum before stage `q`. -/
def acc0 (q : ℕ) := acc (c1s x1) (ccs x2) (cns x3) (half0 x0) q
/-- The second half's running sum before stage `q`. -/
def acc1 (q : ℕ) := acc (c1s x1) (ccs x2) (cns x3) (half1 x0) q
/-- The loss total of stage `q` over both halves. -/
def part (q : ℕ) : FVec Ideal S1x1 .f32 :=
  addf (total (res0 x0 x1 x2 x3 (q + 1))) (total (res1 x0 x1 x2 x3 (q + 1)))

/-- The first result's block: the two halves' sums over all stages, one above the other. -/
theorem out4 : out0_4 x0 x1 x2 x3 = View.canon [⟨r0_26, shapeCast S1x1024x512 (concatenate S1024x512 0
      [⟨S512x512, acc0 x0 x1 x2 x3 8⟩, ⟨S512x512, acc1 x0 x1 x2 x3 8⟩] concatenates_S512x512_S512x512_S1024x512_d0)
      shapeCasts_S1024x512_S1x1024x512⟩] := by
  unfold out0_4 k0_pay171
  rw [p121, p122, p123, p124, p125, p126, p127, p128, p129, p131, p132, p133, p135, p136, p137, p138, p139, p140, p141, p142, p143, p144, p145, p146, p149, p150, p152, p153, p155, p156, p157, p158, p160, p161, p162, p163, p164, p165, p166, p168, p169]
  rfl

/-- The second result's block: the two halves' choices at the eight stages, one above the other. -/
theorem out5 : out0_5 x0 x1 x2 x3 = View.canon [⟨r0_27, shapeCast S1x1024x8 (concatenate S1024x8 0
      [⟨S512x8, cols8 (ch0 x0 x1 x2 x3)⟩,
       ⟨S512x8, cols8 (ch1 x0 x1 x2 x3)⟩]
      concatenates_S512x8_S512x8_S1024x8_d0) shapeCasts_S1024x8_S1x1024x8⟩] := by
  unfold out0_5 k0_pay171
  rw [p121, p124, p125, p127, p128, p131, p132, p135, p137, p138, p139, p141, p143, p145, p147, p148, p149, p150, p151, p156, p157, p160, p161, p162, p163, p164, p166, p168, p169]
  rfl

/-- The third result's block: the eight stages' loss totals. -/
theorem out6 : out0_6 x0 x1 x2 x3 = View.canon [⟨r0_28, shapeCast S1x8x1 (rows8 (part x0 x1 x2 x3)) shapeCasts_S8x1_S1x8x1⟩] := by
  unfold out0_6 k0_pay171 k0_pay130
  rw [p121, p122, p123, p124, p125, p126, p129, p131, p132, p133, p134, p135, p136, p137, p138, p139, p140, p141, p142, p143, p144, p145, p146, p149, p150, p152, p153, p155, p156, p157, p158, p160, p161, p162, p163, p164, p165, p166, p168, p169]
  rfl

end Cert.KernelIdeal.Body
-- ==== Proof.Block.lean ====
/- What the kernel's three result blocks hold at one grid point, index by index, over the rows of the input block and the
   codebooks. -/
module

public import proofs.«01_k».proof.Proof.Body
public import Idealize.ShloMosaic.Lib.Pipeline.Value

@[expose] public section

set_option maxRecDepth 16384

noncomputable section

namespace Cert.KernelIdeal.Block

open Idealize.ShloMosaic Cert.KernelIdeal Cert.KernelIdeal.Gen Cert.KernelIdeal.Stage Cert.KernelIdeal.Body Cert.Rvq

/-- The codebook of stage `q`, the last one from stage 7 on. -/
def stageIx : ℕ → Fin 8
  | 0 => 0 | 1 => 1 | 2 => 2 | 3 => 3 | 4 => 4 | 5 => 5 | 6 => 6 | _ => 7

theorem stageIx_val (q : Fin 8) : stageIx q.val = q := by fin_cases q <;> rfl

theorem hz : (![0, 0, 0] : Fin 3 → Nat) = fun _ => 0 := funext fun a => by fin_cases a <;> rfl

variable (x0 : Vec Ideal S1x1024x512 .f32) (x1 : Vec Ideal S8x1024x512 .bf16) (x2 : Vec Ideal S8x1024x1536 .bf16)
  (x3 : Vec Ideal S8x1x1024 .f32)

theorem c1s_apply (q : ℕ) (k : Fin 1024) (d : Fin 512) : c1s x1 q (ix3 0 k d) = x1 (ix3 (stageIx q) k d) := by
  unfold c1s stageIx
  split <;> (refine congrArg x1 (funext fun a => Fin.ext ?_); fin_cases a <;> simp [Rect.unit, ix3])

theorem ccs_apply (q : ℕ) (k : Fin 1024) (d : Fin 1536) : ccs x2 q (ix3 0 k d) = x2 (ix3 (stageIx q) k d) := by
  unfold ccs stageIx
  split <;> (refine congrArg x2 (funext fun a => Fin.ext ?_); fin_cases a <;> simp [Rect.unit, ix3])

theorem cns_apply (q : ℕ) (k : Fin 1024) : cns x3 q (ix3 0 0 k) = x3 (ix3 (stageIx q) 0 k) := by
  unfold cns stageIx
  split <;> (refine congrArg x3 (funext fun a => Fin.ext ?_); fin_cases a <;> simp [Rect.unit, ix3])

/-- Row `n` of the input block. -/
def xrow (n : Fin 1024) : Row := fun d => x0 (ix3 0 n d)

theorem half0_row (i : Fin 512) : rowOf (half0 x0) i = xrow x0 ⟨i.val, by omega⟩ := by
  funext d
  have h : half0 x0 (ix2 i d) = View.ld x0 r0_0 (ix3 0 i d) := by pointwise [half0]
  refine h.trans (congrArg x0 (funext fun a => Fin.ext ?_))
  fin_cases a <;> simp [Rect.unit, ix3]

theorem half1_row (i : Fin 512) : rowOf (half1 x0) i = xrow x0 ⟨512 + i.val, by omega⟩ := by
  funext d
  have h : half1 x0 (ix2 i d) = View.ld x0 r0_1 (ix3 0 i d) := by pointwise [half1]
  refine h.trans (congrArg x0 (funext fun a => Fin.ext ?_))
  fin_cases a <;> simp [Rect.unit, ix3]

/-- The three arrays hold the codebook, its entries' split and its entries' norms. -/
structure Arrays (cbs : ℕ → Book) : Prop where
  c1 : ∀ q k d, x1 (ix3 (stageIx q) k d) = cbs q k d
  cn : ∀ q k, x3 (ix3 (stageIx q) 0 k) = sqNorm (cbs q k)
  cc0 : ∀ q k (d : Fin 512), x2 (ix3 (stageIx q) k ⟨d.val, by omega⟩) = cbs q k d
  cc1 : ∀ q k (d : Fin 512), x2 (ix3 (stageIx q) k ⟨512 + d.val, by omega⟩) = 0
  cc2 : ∀ q k (d : Fin 512), x2 (ix3 (stageIx q) k ⟨1024 + d.val, by omega⟩) = 0

variable {x1 x2 x3} {cbs : ℕ → Book} (h : Arrays x1 x2 x3 cbs)

include h in
theorem Arrays.holds : Holds (c1s x1) (ccs x2) (cns x3) cbs where
  c1 q k d := (c1s_apply x1 q k d).trans (h.c1 q k d)
  cn q k := (cns_apply x3 q k).trans (h.cn q k)
  cc0 q k d := (ccs_apply x2 q k _).trans (h.cc0 q k d)
  cc1 q k d := (ccs_apply x2 q k _).trans (h.cc1 q k d)
  cc2 q k d := (ccs_apply x2 q k _).trans (h.cc2 q k d)

/-- Two blocks of 512 rows one above the other, read by rows. -/
theorem stack_cases {P : Fin 1024 → Prop} (h0 : ∀ i : Fin 512, P ⟨i.val, by omega⟩) (h1 : ∀ i : Fin 512, P ⟨512 + i.val, by omega⟩)
    (n : Fin 1024) : P n := by
  by_cases hn : n.val < 512
  · exact h0 ⟨n.val, hn⟩
  · have e : n = ⟨512 + (⟨n.val - 512, by omega⟩ : Fin 512).val, by simp only; omega⟩ := Fin.ext (by simp only; omega)
    rw [e]
    exact h1 _

include h in
/-- The first result's block: each row's sum over all stages. -/
theorem out4_apply (n : Fin 1024) (d : Fin 512) : out0_4 x0 x1 x2 x3 (ix3 0 n d) = sumN cbs (xrow x0 n) 8 d := by
  rw [out4, View.canon_unit_zero hz]
  revert n
  refine stack_cases (fun i => ?_) (fun i => ?_)
  · rw [← half0_row, ← acc_apply h.holds (half0 x0) i d 8]
    pointwise [acc0]
  · rw [← half1_row, ← acc_apply h.holds (half1 x0) i d 8]
    pointwise [acc1]

include h in
/-- The second result's block: each row's choices. -/
theorem out5_apply (n : Fin 1024) (q : Fin 8) :
    out0_5 x0 x1 x2 x3 (ix3 0 n q) = BitVec.ofNat 32 (pickN cbs (xrow x0 n) q.val).val := by
  rw [out5, View.canon_unit_zero hz]
  revert n
  refine stack_cases (fun i => ?_) (fun i => ?_)
  · rw [← half0_row, ← choice_apply h.holds (half0 x0) q.val i 0]
    exact Eq.trans (by pointwise) (cols8_apply (ch0 x0 x1 x2 x3) i q)
  · rw [← half1_row, ← choice_apply h.holds (half1 x0) q.val i 0]
    exact Eq.trans (by pointwise) (cols8_apply (ch1 x0 x1 x2 x3) i q)

include h in
/-- The third result's block: each stage's sum of squares of what it leaves, over the rows of the two halves. -/
theorem out6_apply (q : Fin 8) (z : Fin 1) : out0_6 x0 x1 x2 x3 (ix3 0 q z)
    = (∑ i : Fin 512, sqNorm (restN cbs (xrow x0 ⟨i.val, by omega⟩) (q.val + 1)))
      + ∑ i : Fin 512, sqNorm (restN cbs (xrow x0 ⟨512 + i.val, by omega⟩) (q.val + 1)) := by
  rw [out6, View.canon_unit_zero hz]
  have e : shapeCast S1x8x1 (rows8 (part x0 x1 x2 x3)) shapeCasts_S8x1_S1x8x1 (ix3 0 q z) = rows8 (part x0 x1 x2 x3) (ix2 q 0) := by
    pointwise
  refine e.trans ((rows8_apply _ q 0).trans ?_)
  show total (res0 x0 x1 x2 x3 (q.val + 1)) (ix2 0 0) + total (res1 x0 x1 x2 x3 (q.val + 1)) (ix2 0 0) = _
  unfold res0 res1
  rw [total_resid h.holds, total_resid h.holds]
  simp only [half0_row, half1_row]

end Cert.KernelIdeal.Block
-- ==== Proof.Entry.lean ====
/- What the kernel's staged arrays hold: the codebooks, the codebooks split in three pieces of which the last two are
   zero, the norms of the entries, and the rows. -/
module

public import proofs.«01_k».proof.Proof.Gen.KernelIdeal.Frame
public import proofs.«01_k».proof.Proof.Block
public import Idealize.ShloMosaic.Lib.StableHlo.ReadAt

@[expose] public section

set_option maxRecDepth 16384

noncomputable section

namespace Cert.KernelIdeal.Entry

open Idealize.ShloMosaic Idealize.ShloMosaic.TcCoe Cert.KernelIdeal Cert.KernelIdeal.Gen Cert.KernelIdeal.Block Cert.Rvq

variable (m : (ℓ : Loc nD τ sig) → Buf (Elt Ideal) ℓ) (c : Dev nD)

/-- The rows the kernel is given. -/
abbrev xs : FVec Ideal S16x512x512 .f32 := m ((c : Thread nD τ).loc main_arg0)
/-- The codebooks the kernel is given. -/
abbrev cs : FVec Ideal S8x1024x512 .f32 := m ((c : Thread nD τ).loc main_arg1)

/-- The staged codebooks are the codebooks. -/
theorem books (q : Fin 8) (k : Fin 1024) (d : Fin 512) :
    V m c main_v0 (ix3 q k d) = cs m c (ix3 q k d) := by
  unfold V V0 hostOps0
  after_reads_at

/-- The staged norms are sums of squares. -/
theorem norms (q : Fin 8) (k : Fin 1024) :
    V m c main_v12 (ix3 q 0 k) = ∑ d : Fin 512, cs m c (ix3 q k d) * cs m c (ix3 q k d) := by
  unfold V V0 hostOps0
  after_reads_at

/-- The first third of the split codebooks is the codebooks. -/
theorem split0 (q : Fin 8) (k : Fin 1024) (d : Fin 512) :
    V m c main_v9 (ix3 q k ⟨d.val, by omega⟩) = cs m c (ix3 q k d) := by
  unfold V V0 hostOps0
  after_reads_at
  after_reads_simp
  rfl

/-- The second third is the codebooks less themselves. -/
theorem split1 (q : Fin 8) (k : Fin 1024) (d : Fin 512) :
    V m c main_v9 (ix3 q k ⟨512 + d.val, by omega⟩) = cs m c (ix3 q k d) - cs m c (ix3 q k d) := by
  unfold V V0 hostOps0
  after_reads_at
  after_reads_simp
  rfl

/-- The last third is what is left of that less itself. -/
theorem split2 (q : Fin 8) (k : Fin 1024) (d : Fin 512) :
    V m c main_v9 (ix3 q k ⟨1024 + d.val, by omega⟩)
      = (cs m c (ix3 q k d) - cs m c (ix3 q k d)) - (cs m c (ix3 q k d) - cs m c (ix3 q k d)) := by
  unfold V V0 hostOps0
  after_reads_at
  after_reads_simp
  rw [dif_neg (by omega), dif_neg (by omega)]
  have e : (⟨1024 + d.val - 512 - 512, by omega⟩ : Fin 512) = d := Fin.ext (by simp only; omega)
  rw [e]
  rfl

/-- The staged rows are the given rows, two groups of 512 to a block. -/
theorem rows (t : Fin 8) (b : Fin 2) (n d : Fin 512) :
    V m c main_v13 (ix3 t ⟨512 * b.val + n.val, by omega⟩ d) = xs m c (ix3 ⟨2 * t.val + b.val, by omega⟩ n d) := by
  unfold V V0 hostOps0
  after_reads_at
  have e : (512 * b.val + n.val) / 512 = b.val := by omega
  exact congrArg (fun a => xs m c (ix3 a n d)) (Fin.ext (by simp only [e]; omega))

end Cert.KernelIdeal.Entry
-- ==== Proof.Final.lean ====
/- What the kernel's three result arrays hold after the region, index by index. -/
module

public import proofs.«01_k».proof.Proof.Entry
public import Idealize.ShloMosaic.Lib.Pipeline.ValueKit

@[expose] public section

set_option maxRecDepth 16384

noncomputable section

namespace Cert.KernelIdeal.Final

open Idealize.ShloMosaic Idealize.ShloMosaic.TcCoe Cert.KernelIdeal Cert.KernelIdeal.Gen Cert.KernelIdeal.Block
  Cert.KernelIdeal.Entry Cert.Rvq

variable (m : (ℓ : Loc nD τ sig) → Buf (Elt Ideal) ℓ) (c : Dev nD)

/-- The codebooks by stage. -/
def books (cb : FVec Ideal S8x1024x512 .f32) : ℕ → Book := fun q k d => cb (ix3 (stageIx q) k d)

/-- Row `n` of tile `t`: the tile is two groups of 512 rows. -/
def tileRow (x : FVec Ideal S16x512x512 .f32) (t : Fin 8) (n : Fin 1024) : Row :=
  fun d => x (ix3 ⟨2 * t.val + n.val / 512, by omega⟩ ⟨n.val % 512, by omega⟩ d)

/-- Grid point `t` as a tile. -/
def tile (t : Fin cfg0.N) : Fin 8 := ⟨t.val, t.isLt⟩

theorem i0 : ∀ t : Fin cfg0.N, win0_0.index t = ![t.val, 0, 0] := (by decide +kernel : ∀ t : Fin grid0.N, _)
theorem i1 : ∀ t : Fin cfg0.N, win0_1.index t = ![0, 0, 0] := (by decide +kernel : ∀ t : Fin grid0.N, _)
theorem i2 : ∀ t : Fin cfg0.N, win0_2.index t = ![0, 0, 0] := (by decide +kernel : ∀ t : Fin grid0.N, _)
theorem i3 : ∀ t : Fin cfg0.N, win0_3.index t = ![0, 0, 0] := (by decide +kernel : ∀ t : Fin grid0.N, _)
theorem i4 : ∀ t : Fin cfg0.N, win0_4.index t = ![t.val, 0, 0] := (by decide +kernel : ∀ t : Fin grid0.N, _)
theorem i5 : ∀ t : Fin cfg0.N, win0_5.index t = ![t.val, 0, 0] := (by decide +kernel : ∀ t : Fin grid0.N, _)
theorem i6 : ∀ t : Fin cfg0.N, win0_6.index t = ![t.val, 0, 0] := (by decide +kernel : ∀ t : Fin grid0.N, _)

/-- A row of the block of rows is a row of the tile. -/
theorem row_block (t : Fin cfg0.N) (n : Fin 1024) : xrow (iblk m c 0 t) n = tileRow (xs m c) (tile t) n := by
  funext d
  have e : iblk m c 0 t (ix3 0 n d) = V m c main_v13 (ix3 (tile t) n d) := by
    blk_ext [iblk, i0, tile]
  have h := Entry.rows m c (tile t) ⟨n.val / 512, by omega⟩ ⟨n.val % 512, by omega⟩ d
  have en : (⟨512 * (n.val / 512) + n.val % 512, by omega⟩ : Fin 1024) = n := Fin.ext (by simp only; omega)
  simp only [en] at h
  exact e.trans h

/-- Whole arrays staged once: a place of the block is the same place of the array. -/
theorem book_block (t : Fin cfg0.N) (q : Fin 8) (k : Fin 1024) (d : Fin 512) :
    iblk m c 1 t (ix3 q k d) = V m c main_v0 (ix3 q k d) := by
  blk_ext [iblk, i1]
theorem split_block (t : Fin cfg0.N) (q : Fin 8) (k : Fin 1024) (d : Fin 1536) :
    iblk m c 2 t (ix3 q k d) = V m c main_v9 (ix3 q k d) := by
  blk_ext [iblk, i2]
theorem norm_block (t : Fin cfg0.N) (q : Fin 8) (k : Fin 1024) :
    iblk m c 3 t (ix3 q 0 k) = V m c main_v12 (ix3 q 0 k) := by
  blk_ext [iblk, i3]

/-- The codebooks less themselves are zero. -/
def Finite : Prop := ∀ i, cs m c i - cs m c i = (0 : EReal)

variable {m c}

/-- With finite codebooks the staged arrays are the codebooks, their norms, and the codebooks with two zero pieces. -/
theorem arrays (hf : Finite m c) (t : Fin cfg0.N) :
    Arrays (iblk m c 1 t) (iblk m c 2 t) (iblk m c 3 t) (books (cs m c)) where
  c1 q k d := (book_block m c t _ k d).trans (Entry.books m c _ k d)
  cn q k := (norm_block m c t _ k).trans (Entry.norms m c _ k)
  cc0 q k d := (split_block m c t _ k _).trans (Entry.split0 m c _ k d)
  cc1 q k d := (split_block m c t _ k _).trans ((Entry.split1 m c _ k d).trans (hf _))
  cc2 q k d := (split_block m c t _ k _).trans ((Entry.split2 m c _ k d).trans (by rw [hf]; simp))

variable (m c)

/-- The quantised rows. -/
def sums : S8x1024x512.Idx → EReal := fun i => sumN (books (cs m c)) (tileRow (xs m c) (i 0) (i 1)) 8 (i 2)
/-- The choices. -/
def picks : S8x1024x8.Idx → BitVec 32 := fun i =>
  BitVec.ofNat 32 (pickN (books (cs m c)) (tileRow (xs m c) (i 0) (i 1)) (i 2).val).val
/-- The sums of squares of what is left, by tile and stage. -/
def parts : S8x8x1.Idx → EReal := fun i =>
  (∑ r : Fin 512, sqNorm (restN (books (cs m c)) (tileRow (xs m c) (i 0) ⟨r.val, by omega⟩) ((i 1).val + 1)))
    + ∑ r : Fin 512, sqNorm (restN (books (cs m c)) (tileRow (xs m c) (i 0) ⟨512 + r.val, by omega⟩) ((i 1).val + 1))

variable {m c}

/-- A block's place, its leading coordinate being zero. -/
theorem place {a b : ℕ} (y : (⟨3, ![1, a, b]⟩ : Shape).Idx) : y = ix3 (n0 := 1) (n1 := a) (n2 := b) 0 (y 1) (y 2) :=
  (eq_ix3 y).trans (congrArg (fun z => ix3 (n0 := 1) (n1 := a) (n2 := b) z (y 1) (y 2)) (Subsingleton.elim _ _))

/-- What point `t` leaves in the block of result 0. -/
theorem block4 (hf : Finite m c) (t : Fin cfg0.N) (n : Fin 1024) (d : Fin 512) :
    out0_4 (iblk m c 0 t) (iblk m c 1 t) (iblk m c 2 t) (iblk m c 3 t) (ix3 0 n d) = sums m c (ix3 (tile t) n d) := by
  rw [out4_apply _ (arrays hf t)]
  simp only [row_block]
  rfl

/-- The first result array holds the quantised rows. -/
theorem final4 (hf : Finite m c) : (dats m 0 c).arrAt 4 cfg0.N = sums m c := by
  refine (dats m 0 c).arrAt_eq_of_covers 4 _ (by decide +kernel) fun t _ y => ?_
  blk_simp
  rw [after0_4]
  have ee : ((cfg0.win 4).blk t).view.emb y = ix3 (tile t) (y 1) (y 2) := by
    blk_ext [i4, tile]
  refine (congrArg (out0_4 (iblk m c 0 t) (iblk m c 1 t) (iblk m c 2 t) (iblk m c 3 t)) (place y)).trans
    ((block4 hf t (y 1) (y 2)).trans (congrArg (sums m c) ee).symm)

/-- What point `t` leaves in the block of result 1. -/
theorem block5 (hf : Finite m c) (t : Fin cfg0.N) (n : Fin 1024) (d : Fin 8) :
    out0_5 (iblk m c 0 t) (iblk m c 1 t) (iblk m c 2 t) (iblk m c 3 t) (ix3 0 n d) = picks m c (ix3 (tile t) n d) := by
  rw [out5_apply _ (arrays hf t)]
  simp only [row_block]
  rfl

/-- The second result array holds the choices. -/
theorem final5 (hf : Finite m c) : (dats m 0 c).arrAt 5 cfg0.N = picks m c := by
  refine (dats m 0 c).arrAt_eq_of_covers 5 _ (by decide +kernel) fun t _ y => ?_
  blk_simp
  rw [after0_5]
  have ee : ((cfg0.win 5).blk t).view.emb y = ix3 (tile t) (y 1) (y 2) := by
    blk_ext [i5, tile]
  refine (congrArg (out0_5 (iblk m c 0 t) (iblk m c 1 t) (iblk m c 2 t) (iblk m c 3 t)) (place y)).trans
    ((block5 hf t (y 1) (y 2)).trans (congrArg (picks m c) ee).symm)

/-- What point `t` leaves in the block of result 2. -/
theorem block6 (hf : Finite m c) (t : Fin cfg0.N) (n : Fin 8) (d : Fin 1) :
    out0_6 (iblk m c 0 t) (iblk m c 1 t) (iblk m c 2 t) (iblk m c 3 t) (ix3 0 n d) = parts m c (ix3 (tile t) n d) := by
  rw [out6_apply _ (arrays hf t)]
  simp only [row_block]
  rfl

/-- The third result array holds the sums of squares of what is left. -/
theorem final6 (hf : Finite m c) : (dats m 0 c).arrAt 6 cfg0.N = parts m c := by
  refine (dats m 0 c).arrAt_eq_of_covers 6 _ (by decide +kernel) fun t _ y => ?_
  blk_simp
  rw [after0_6]
  have ee : ((cfg0.win 6).blk t).view.emb y = ix3 (tile t) (y 1) (y 2) := by
    blk_ext [i6, tile]
  refine (congrArg (out0_6 (iblk m c 0 t) (iblk m c 1 t) (iblk m c 2 t) (iblk m c 3 t)) (place y)).trans
    ((block6 hf t (y 1) (y 2)).trans (congrArg (parts m c) ee).symm)

end Cert.KernelIdeal.Final
-- ==== Proof.Tail.lean ====
/- What the kernel's program leaves in its three results, after the host operations that follow the region. -/
module

public import proofs.«01_k».proof.Proof.Final

@[expose] public section

set_option maxRecDepth 16384

noncomputable section

namespace Cert.KernelIdeal.Tail

open Idealize.ShloMosaic Idealize.ShloMosaic.TcCoe Idealize.SL.Sem Cert.KernelIdeal Cert.KernelIdeal.Gen Cert.KernelIdeal.Block
  Cert.KernelIdeal.Entry Cert.KernelIdeal.Final Cert.Rvq

variable (m : (ℓ : Loc nD τ sig) → Buf (Elt Ideal) ℓ) (ρ : Dev nD → PrngReg) {c : Dev nD}

/-- What the region leaves: the arrays it wrote, every other buffer as before. -/
abbrev left (c : Dev nD) : Valuation τ sig (Elt Ideal) :=
  Pipeline.withArrays spec0 c (V0 m c) fun w => (dats m 0 c).arrAt w cfg0.N

theorem left0 (hf : Finite m c) : left m c (Proc.devRef .tc main_v14_0) = sums m c :=
  (Pipeline.withArrays_arr spec0 launch0.win.arr_inj c _ _ 4).trans (final4 hf)
theorem left1 (hf : Finite m c) : left m c (Proc.devRef .tc main_v14_1) = picks m c :=
  (Pipeline.withArrays_arr spec0 launch0.win.arr_inj c _ _ 5).trans (final5 hf)
theorem left2 (hf : Finite m c) : left m c (Proc.devRef .tc main_v14_2) = parts m c :=
  (Pipeline.withArrays_arr spec0 launch0.win.arr_inj c _ _ 6).trans (final6 hf)

/-- The first result: the quantised rows, two groups to a tile. -/
def quants (c : Dev nD) : FVec Ideal S16x512x512 .f32 := shapeCast S16x512x512 (sums m c : FVec Ideal S8x1024x512 .f32) shapeCasts_S8x1024x512_S16x512x512
/-- The second result: the choices, two groups to a tile. -/
def choices (c : Dev nD) : IVec S16x512x8 32 := shapeCast S16x512x8 (picks m c : IVec S8x1024x8 32) shapeCasts_S8x1024x8_S16x512x8
/-- The third result: the sum of all squares, divided by their number. -/
def loss (c : Dev nD) : FVec Ideal S_ .f32 :=
  Host.divf (Host.reduceAdd (parts m c : FVec Ideal S8x8x1 .f32) (constant S_ .f32 0#32) reducesTo_S8x8x1_S_d0_1_2 h_S_) (constant S_ .f32 0x4A800000#32)

theorem tail0 (hf : Finite m c) : Pipeline.afterTail₀ cfgs (dats m) 0 (V0 m) [hostOps1] c main_v15 = quants m c := by
  unfold Pipeline.afterTail₀ quants
  rw [← left0 m hf]
  unfold hostOps1
  after_reads_simp
  rfl
theorem tail1 (hf : Finite m c) : Pipeline.afterTail₀ cfgs (dats m) 0 (V0 m) [hostOps1] c main_v16 = choices m c := by
  unfold Pipeline.afterTail₀ choices
  rw [← left1 m hf]
  unfold hostOps1
  after_reads_simp
  rfl
theorem tail2 (hf : Finite m c) : Pipeline.afterTail₀ cfgs (dats m) 0 (V0 m) [hostOps1] c main_v18 = loss m c := by
  unfold Pipeline.afterTail₀ loss
  rw [← left2 m hf]
  unfold hostOps1
  after_reads_simp

/-- One given row. -/
def inRow (x : FVec Ideal S16x512x512 .f32) (b : Fin 16) (t : Fin 512) : Row := fun d => x (ix3 b t d)

/-- A row of a tile is a given row. -/
theorem tileRow_eq (x : FVec Ideal S16x512x512 .f32) (s : Fin 8) (n : Fin 1024) (b : Fin 16) (t : Fin 512)
    (h : s.val * 1024 + n.val = b.val * 512 + t.val) : tileRow x s n = inRow x b t := by
  have e1 : (⟨2 * s.val + n.val / 512, by omega⟩ : Fin 16) = b := Fin.ext (by simp only; omega)
  have e2 : (⟨n.val % 512, by omega⟩ : Fin 512) = t := Fin.ext (by simp only; omega)
  funext d
  unfold tileRow inRow
  rw [e1, e2]

/-- The first result at a place. -/
theorem quants_apply (b : Fin 16) (t d : Fin 512) :
    quants m c (ix3 b t d) = sumN (books (cs m c)) (inRow (xs m c) b t) 8 d := by
  rw [← tileRow_eq (xs m c) ⟨b.val / 2, by omega⟩ ⟨b.val % 2 * 512 + t.val, by omega⟩ b t (by simp only; omega)]
  unfold quants
  generalize hA : (sums m c : FVec Ideal S8x1024x512 .f32) = A
  have e : shapeCast S16x512x512 A shapeCasts_S8x1024x512_S16x512x512 (ix3 b t d)
      = A (ix3 ⟨b.val / 2, by omega⟩ ⟨b.val % 2 * 512 + t.val, by omega⟩ d) := by
    pointwise
  rw [e, ← hA]
  rfl

/-- The second result at a place. -/
theorem choices_apply (b : Fin 16) (t : Fin 512) (q : Fin 8) :
    choices m c (ix3 b t q) = BitVec.ofNat 32 (pickN (books (cs m c)) (inRow (xs m c) b t) q.val).val := by
  rw [← tileRow_eq (xs m c) ⟨b.val / 2, by omega⟩ ⟨b.val % 2 * 512 + t.val, by omega⟩ b t (by simp only; omega)]
  unfold choices
  generalize hA : (picks m c : IVec S8x1024x8 32) = A
  have e : shapeCast S16x512x8 A shapeCasts_S8x1024x8_S16x512x8 (ix3 b t q)
      = A (ix3 ⟨b.val / 2, by omega⟩ ⟨b.val % 2 * 512 + t.val, by omega⟩ q) := by
    pointwise
  rw [e, ← hA]
  rfl

/-- What a stage leaves of the rows of one group, squared and summed. -/
def group (q : Fin 8) (b : Fin 16) : EReal :=
  ∑ t : Fin 512, sqNorm (restN (books (cs m c)) (inRow (xs m c) b t) (q.val + 1))

/-- A tile's part of the loss at a stage is that of its two groups. -/
theorem parts_apply (s q : Fin 8) :
    parts m c (ix3 s q 0) = group m (c := c) q ⟨2 * s.val, by omega⟩ + group m (c := c) q ⟨2 * s.val + 1, by omega⟩ := by
  have e0 : ∀ r : Fin 512, tileRow (xs m c) s ⟨r.val, by omega⟩ = inRow (xs m c) ⟨2 * s.val, by omega⟩ r := fun r =>
    tileRow_eq _ _ _ _ _ (by simp only; omega)
  have e1 : ∀ r : Fin 512, tileRow (xs m c) s ⟨512 + r.val, by omega⟩ = inRow (xs m c) ⟨2 * s.val + 1, by omega⟩ r := fun r =>
    tileRow_eq _ _ _ _ _ (by simp only; omega)
  unfold group
  simp only [← e0, ← e1]
  rfl

/-- Sixteen terms added pair by pair. -/
theorem sum_pairs (f : Fin 16 → EReal) :
    ∑ s : Fin 8, (f ⟨2 * s.val, by omega⟩ + f ⟨2 * s.val + 1, by omega⟩) = ∑ b : Fin 16, f b := by
  simp only [Fin.sum_univ_succ, Finset.univ_eq_empty, Finset.sum_empty, add_zero, add_assoc]
  rfl

/-- The number of entries the loss divides by. -/
theorem entries : Ideal.ofBits .f32 0x4A800000#32 = ((4194304 : ℝ) : EReal) := by
  simp [Ideal.ofBits, Ideal.ieee, -EReal.coe_mul]; norm_num

/-- Division by the number of entries distributes over a sum. -/
theorem div_sum {n : ℕ} (f : Fin n → EReal) :
    Ideal.div (∑ i, f i) (Ideal.ofBits .f32 0x4A800000#32) = ∑ i, Ideal.div (f i) (Ideal.ofBits .f32 0x4A800000#32) := by
  rw [entries]
  simp only [Ideal.div_coe (by norm_num : (4194304 : ℝ) ≠ 0)]
  rw [mul_comm, mul_sum_of_nonneg _ _ (by exact_mod_cast (by norm_num : (0 : ℝ) ≤ 1 / 4194304)) (EReal.coe_ne_top _)]
  exact Finset.sum_congr rfl fun _ _ => mul_comm _ _

/-- The third result is the sum over the stages of the means of the squares of what each leaves. -/
theorem loss_apply : loss m c ix0 = ∑ q : Fin 8, Ideal.div (∑ b, group m (c := c) q b) (Ideal.ofBits .f32 0x4A800000#32) := by
  rw [← div_sum, Finset.sum_congr rfl fun q _ => (sum_pairs (group m (c := c) q)).symm, Finset.sum_comm]
  simp only [← parts_apply]
  unfold loss
  generalize (parts m c : FVec Ideal S8x8x1 .f32) = A
  pointwise
  simp only [Fin.sum_univ_one]

/-- The run: the three results, the arguments unchanged. -/
theorem run (hf : ∀ c, Finite m c) : θ_run defs (onTc (τ := τ) (main (F := Ideal))) ⟨m, fun _ => 0, ρ⟩ fun r => ∀ c : Dev nD,
      r.2.mem ((c : Thread nD τ).loc main_v15) = quants m c
      ∧ r.2.mem ((c : Thread nD τ).loc main_v16) = choices m c
      ∧ r.2.mem ((c : Thread nD τ).loc main_v18) = loss m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v15 (Pipeline.mem_restRefs_of main_v15 (by decide) (by decide))).trans (tail0 m (hf c)),
       ((h c).2 main_v16 (Pipeline.mem_restRefs_of main_v16 (by decide) (by decide))).trans (tail1 m (hf c)),
       ((h c).2 main_v18 (Pipeline.mem_restRefs_of main_v18 (by decide) (by decide))).trans (tail2 m (hf c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Tail
-- ==== Proof.RefStage.lean ====
/- One stage of the reference as a function of a codebook and of what is left of the rows, read at an index. -/
module

public import proofs.«01_k».proof.Proof.Gen.ReferenceIdeal
public import proofs.«01_k».proof.Proof.Math
public import Idealize.ShloMosaic.Lib.Pointwise
public import Idealize.ShloMosaic.Lib.StableHlo.Predicate
public import Idealize.ShloMosaic.Lib.Routing.Ops
public import Idealize.ShloMosaic.Lib.WordArith

@[expose] public section

set_option maxRecDepth 16384

noncomputable section

namespace Cert.ReferenceIdeal.Stage

open Idealize.ShloMosaic Cert.ReferenceIdeal Cert.ReferenceIdeal.Gen Cert.Rvq

/-- The squared distances from the rows of `f` to the entries of `cb`. -/
def dists (cb : FVec Ideal S1024x512 .f32) (f : FVec Ideal S8192x512 .f32) : FVec Ideal S8192x1024 .f32 :=
  addf
    (subf
      (broadcastInDim S8192x1024 ![0, 1] bcast_S8192x1_S8192x1024_0_1
        (broadcastInDim S8192x1 ![0] bcast_S8192_S8192x1_0
          (Host.reduceAdd (mulf f f) (constant S_ .f32 0x00000000#32) reducesTo_S8192x512_S8192_d1 h_S_)))
      (Host.dotGeneral dot_S8192x512_S512x1024_S8192x1024_1_0_0_1_n_n none
        (mulf (broadcastInDim S8192x512 ![] bcast_S_S8192x512 (constant S_ .f32 0x40000000#32)) f)
        (transpose S512x1024 [1, 0] cb transposes_S1024x512_S512x1024_1_0)))
    (broadcastInDim S8192x1024 ![0, 1] bcast_S1x1024_S8192x1024_0_1
      (broadcastInDim S1x1024 ![1] bcast_S1024_S1x1024_1
        (Host.reduceAdd (mulf cb cb) (constant S_ .f32 0x00000000#32) reducesTo_S1024x512_S1024_d1 h_S_)))

/-- The places where a row of `d` equals its least value, by number, the others numbered 1024. -/
def marks (d : FVec Ideal S8192x1024 .f32) : IVec S8192x1024 32 :=
  select
    (cmpf .oeq d
      (broadcastInDim S8192x1024 ![0, 1] bcast_S8192x1_S8192x1024_0_1
        (broadcastInDim S8192x1 ![0] bcast_S8192_S8192x1_0
          (Host.reduce FloatOps.minimumf d (constant S_ .f32 0x7F800000#32) reducesTo_S8192x1024_S8192_d1 h_S_))))
    (broadcastInDim S8192x1024 ![1] bcast_S1024_S8192x1024_1 (iotaInDim S1024 32 0))
    (broadcastInDim S8192x1024 ![] bcast_S_S8192x1024 (id (constantI S_ 32 1024#32)))

/-- The least mark of each row. -/
def index (d : FVec Ideal S8192x1024 .f32) : IVec S8192 32 :=
  Host.reduce IntOp.minsi (marks d) (constantI S_ 32 2147483647#32) reducesTo_S8192x1024_S8192_d1 h_S_

/-- The start rows of the take: a negative index counts from the end. -/
def starts (i : IVec S8192 32) : IVec S8192x1 32 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 1024#32))) i)

/-- Whether a start row lies in the codebook. -/
def inside (s : IVec S8192x1 32) : IVec S8192 1 :=
  Host.reduce IntOp.andi
    (andi (cmpi .sge s (broadcastInDim S8192x1 ![] bcast_S_S8192x1 (constantI S_ 32 0#32)))
      (cmpi .sle s (broadcastInDim S8192x1 ![0, 1] bcast_S1x1_S8192x1_0_1
        (broadcastInDim S1x1 ![1] bcast_S1_S1x1_1 (constantI S1 32 1023#32)))))
    (constantI S_ 1 1#1) reducesTo_S8192x1_S8192_d1 h_S_

/-- The rows of the codebook at the indices. -/
def taken (cb : FVec Ideal S1024x512 .f32) (i : IVec S8192 32) : FVec Ideal S8192x512 .f32 :=
  select (broadcastInDim S8192x512 ![0] bcast_S8192_S8192x512_0 (inside (starts i)))
    (Host.gather gather_S1024x512_S8192x1_S8192x512_1_0_n_n_0_1_1512 cb (starts i))
    (broadcastInDim S8192x512 ![] bcast_S_S8192x512 (constant S_ .f32 0x7FC00000#32))

/-- A distance is the squared distance from the row to the entry. -/
theorem dists_apply (cb : FVec Ideal S1024x512 .f32) (f : FVec Ideal S8192x512 .f32) (p : Fin 8192) (k : Fin 1024) :
    dists cb f (ix2 p k) = sqDist (fun k d => cb (ix2 k d)) (fun d => f (ix2 p d)) k := by
  pointwise [dists]
  have h2 : Ideal.ofBits .f32 1073741824#32 = 2 := by
    simp [Ideal.ofBits, Ideal.ieee, -EReal.coe_mul]; norm_num; rfl
  rw [h2, two_mul_dot]
  rfl

/-- The minimum folded from the top element is the value at the first least place. -/
theorem fold_min_eq {n : ℕ} (f : Fin n → EReal) (k : Fin n) (hk : IsFirstMin f k) :
    Finset.univ.fold min (⊤ : EReal) f = f k :=
  le_antisymm (Finset.fold_min_le _ |>.2 (Or.inr ⟨k, Finset.mem_univ k, le_rfl⟩))
    (Finset.le_fold_min _ |>.2 ⟨le_top, fun j _ => hk.1 j⟩)

/-- A signed minimum of nonnegative words, read as a natural number, is the minimum of the naturals. -/
theorem fold_minsi_toNat {ι : Type} (s : Finset ι) (b : BitVec 32) (hb : b.toNat < 2 ^ 31) (f : ι → BitVec 32)
    (hf : ∀ i, (f i).toNat < 2 ^ 31) :
    (s.fold IntOp.minsi b f).toNat = s.fold min b.toNat (fun i => (f i).toNat) ∧
      s.fold min b.toNat (fun i => (f i).toNat) < 2 ^ 31 := by
  classical
  induction s using Finset.induction_on with
  | empty => simpa using hb
  | insert a s ha ih =>
    rw [Finset.fold_insert ha, Finset.fold_insert ha]
    refine ⟨?_, (min_le_left _ _).trans_lt (hf a)⟩
    rw [WordArith.toNat_minsi_of_lt _ _ (hf a) (ih.1 ▸ ih.2), ih.1]

/-- A mark is the entry's number where the row has its least value there, and 1024 elsewhere. -/
theorem marks_apply (d : FVec Ideal S8192x1024 .f32) (p : Fin 8192) (k j : Fin 1024)
    (hk : IsFirstMin (fun j => d (ix2 p j)) k) :
    marks d (ix2 p j) = if d (ix2 p j) = d (ix2 p k) then BitVec.ofNat 32 j.val else 1024#32 := by
  have ht : Ideal.ofBits .f32 2139095040#32 = ⊤ := by simp [Ideal.ofBits, Ideal.ieee]
  pointwise [marks]
  rw [ht, fold_min_eq (fun x => d (ix2 p x)) k hk]
  rfl

/-- The index of a row is its first least place. -/
theorem index_apply (d : FVec Ideal S8192x1024 .f32) (p : Fin 8192) (k : Fin 1024)
    (hk : IsFirstMin (fun j => d (ix2 p j)) k) : index d (ix1 p) = BitVec.ofNat 32 k.val := by
  pointwise [index]
  have hm : ∀ j : Fin 1024, (marks d (ix2 p j)).toNat = if d (ix2 p j) = d (ix2 p k) then j.val else 1024 := fun j => by
    rw [marks_apply d p k j hk]
    have := j.isLt
    split
    · rw [BitVec.toNat_ofNat]; omega
    · rfl
  have hlt : ∀ j : Fin 1024, (marks d (ix2 p j)).toNat < 2 ^ 31 := fun j => by
    rw [hm j]
    have := j.isLt
    split <;> omega
  have hkl := k.isLt
  have hkt : (BitVec.ofNat 32 k.val).toNat = k.val := by rw [BitVec.toNat_ofNat]; omega
  apply BitVec.eq_of_toNat_eq
  rw [(fold_minsi_toNat Finset.univ _ (by decide) (fun x : Fin 1024 => marks d (ix2 p x)) hlt).1, hkt]
  apply le_antisymm
  · refine Finset.fold_min_le _ |>.2 (Or.inr ⟨k, Finset.mem_univ k, ?_⟩)
    rw [hm k, if_pos rfl]
  · refine Finset.le_fold_min _ |>.2 ⟨by change k.val ≤ 2147483647; omega, fun j _ => ?_⟩
    rw [hm j]
    split
    · next he =>
      by_contra hcon
      exact absurd he (hk.2 j (Fin.lt_def.2 (not_le.1 hcon))).ne'
    · omega

/-- The start row of an index in range is the index. -/
theorem starts_apply (i : IVec S8192 32) (p : Fin 8192) (k : Fin 1024) (hi : i (ix1 p) = BitVec.ofNat 32 k.val) :
    starts i (ix2 p 0) = BitVec.ofNat 32 k.val := by
  pointwise [starts]
  rw [hi]
  have : IntOp.cmpi .slt (BitVec.ofNat 32 k.val) 0#32 = 0#1 := by
    clear hi
    revert k; decide
  rw [this]
  rfl

/-- A start row in range is inside. -/
theorem inside_apply (s : IVec S8192x1 32) (p : Fin 8192) (k : Fin 1024) (hs : s (ix2 p 0) = BitVec.ofNat 32 k.val) :
    inside s (ix1 p) = 1#1 := by
  pointwise [inside]
  rw [Finset.univ_unique, Finset.fold_singleton]
  change IntOp.andi (IntOp.andi (IntOp.cmpi .sge (s (ix2 p 0)) 0#32) (IntOp.cmpi .sle (s (ix2 p 0)) 1023#32)) 1#1 = 1#1
  rw [hs]
  clear hs
  revert k; decide

/-- The row taken at an index in range is that row of the codebook. -/
theorem taken_apply (cb : FVec Ideal S1024x512 .f32) (i : IVec S8192 32) (p : Fin 8192) (d : Fin 512) (k : Fin 1024)
    (hi : i (ix1 p) = BitVec.ofNat 32 k.val) : taken cb i (ix2 p d) = cb (ix2 k d) := by
  have hs := starts_apply i p k hi
  pointwise [taken]
  rw [inside_apply (starts i) p k hs]
  exact Routing.gather_row gather_S1024x512_S8192x1_S8192x512_1_0_n_n_0_1_1512 rfl rfl rfl rfl rfl cb (starts i) p d k hs (by norm_num)

end Cert.ReferenceIdeal.Stage
-- ==== Proof.RefChain.lean ====
/- The reference's eight stages as one recursion over the tensor of rows, read row by row. -/
module

public import proofs.«01_k».proof.Proof.RefStage

@[expose] public section

set_option maxRecDepth 16384

noncomputable section

namespace Cert.ReferenceIdeal.Chain

open Idealize.ShloMosaic Cert.ReferenceIdeal Cert.ReferenceIdeal.Gen Cert.ReferenceIdeal.Stage Cert.Rvq

/-- The tensor of rows. -/
abbrev Rows := FVec Ideal S16x512x512 .f32
/-- One codebook, as the program holds it. -/
abbrev Tab := FVec Ideal S1024x512 .f32

/-- A codebook as a table of rows. -/
def bookOf (cb : Tab) : Book := fun k d => cb (ix2 k d)
/-- One row of the tensor. -/
def rowOf (r : Rows) (b : Fin 16) (t : Fin 512) : Row := fun d => r (ix3 b t d)

/-- The number of a row in the flattened tensor. -/
def flatIx (b : Fin 16) (t : Fin 512) : Fin 8192 := ⟨b.val * 512 + t.val, by omega⟩

/-- The tensor with its two leading axes joined. -/
def flat (r : Rows) : FVec Ideal S8192x512 .f32 := shapeCast S8192x512 r shapeCasts_S16x512x512_S8192x512
/-- The chosen entry's number, for every row. -/
def choice (cb : Tab) (r : Rows) : IVec S8192 32 := index (dists cb (flat r))
/-- The chosen entries. -/
def quant (cb : Tab) (r : Rows) : Rows := shapeCast S16x512x512 (taken cb (choice cb r)) shapeCasts_S8192x512_S16x512x512
/-- The chosen entries' numbers in the shape of the rows. -/
def chosen (cb : Tab) (r : Rows) : IVec S16x512 32 := shapeCast S16x512 (choice cb r) shapeCasts_S8192_S16x512

/-- What is left of the rows before stage `q`. -/
def left (cbs : ℕ → Tab) (x : Rows) : ℕ → Rows
  | 0 => x
  | q + 1 => subf (left cbs x q) (quant (cbs q) (left cbs x q))

/-- The sum of the straight-through values before stage `q`. -/
def total (cbs : ℕ → Tab) (x : Rows) : ℕ → Rows
  | 0 => broadcastInDim S16x512x512 ![] bcast_S_S16x512x512 (constant S_ .f32 0x00000000#32)
  | q + 1 => addf (total cbs x q) (addf (left cbs x q) (subf (quant (cbs q) (left cbs x q)) (left cbs x q)))

theorem flat_apply (r : Rows) (b : Fin 16) (t d : Fin 512) : flat r (ix2 (flatIx b t) d) = r (ix3 b t d) := by
  have e1 : (⟨(flatIx b t).val / 512, by omega⟩ : Fin 16) = b := Fin.ext (by simp only [flatIx]; omega)
  have e2 : (⟨(flatIx b t).val % 512, by omega⟩ : Fin 512) = t := Fin.ext (by simp only [flatIx]; omega)
  pointwise [flat]
  exact congrArg r (congrArg₂ (fun b t => ix3 b t d) e1 e2)

/-- The chosen number is the number of the first nearest entry. -/
theorem choice_apply (cb : Tab) (r : Rows) (b : Fin 16) (t : Fin 512) :
    choice cb r (ix1 (flatIx b t)) = BitVec.ofNat 32 (nearest (bookOf cb) (rowOf r b t)).val := by
  refine index_apply _ _ _ ?_
  have e : (fun j => dists cb (flat r) (ix2 (flatIx b t) j)) = sqDist (bookOf cb) (rowOf r b t) := by
    funext j
    rw [dists_apply]
    simp only [flat_apply]
    rfl
  rw [e]
  exact nearest_spec _ _

/-- The chosen entry of a row is its first nearest entry. -/
theorem quant_apply (cb : Tab) (r : Rows) (b : Fin 16) (t d : Fin 512) :
    quant cb r (ix3 b t d) = bookOf cb (nearest (bookOf cb) (rowOf r b t)) d := by
  have e : quant cb r (ix3 b t d) = taken cb (choice cb r) (ix2 (flatIx b t) d) := by
    pointwise [quant]
    rfl
  exact e.trans (taken_apply cb _ _ _ _ (choice_apply cb r b t))

theorem chosen_apply (cb : Tab) (r : Rows) (b : Fin 16) (t : Fin 512) :
    chosen cb r (ix2 b t) = BitVec.ofNat 32 (nearest (bookOf cb) (rowOf r b t)).val := by
  have e : chosen cb r (ix2 b t) = choice cb r (ix1 (flatIx b t)) := by
    pointwise [chosen]
    rfl
  exact e.trans (choice_apply cb r b t)

/-- A row left before stage `q`. -/
theorem left_row (cbs : ℕ → Tab) (x : Rows) (b : Fin 16) (t : Fin 512) :
    ∀ q, rowOf (left cbs x q) b t = restN (fun q => bookOf (cbs q)) (rowOf x b t) q
  | 0 => rfl
  | q + 1 => by
    funext d
    change left cbs x q (ix3 b t d) - quant (cbs q) (left cbs x q) (ix3 b t d) = _
    rw [quant_apply, left_row cbs x b t q, show left cbs x q (ix3 b t d) = _ from congrFun (left_row cbs x b t q) d]
    rfl

/-- A row of the sum before stage `q`. -/
theorem total_apply (cbs : ℕ → Tab) (x : Rows) (b : Fin 16) (t d : Fin 512) :
    ∀ q, total cbs x q (ix3 b t d) = sumN (fun q => bookOf (cbs q)) (rowOf x b t) q d
  | 0 => by
    pointwise [total]
    rfl
  | q + 1 => by
    change total cbs x q (ix3 b t d) + (left cbs x q (ix3 b t d) + (quant (cbs q) (left cbs x q) (ix3 b t d) - left cbs x q (ix3 b t d))) = _
    rw [quant_apply, total_apply cbs x b t d q, left_row cbs x b t q,
      show left cbs x q (ix3 b t d) = _ from congrFun (left_row cbs x b t q) d]
    rfl

/-- The number chosen at stage `q`. -/
theorem chosen_left (cbs : ℕ → Tab) (x : Rows) (b : Fin 16) (t : Fin 512) (q : ℕ) :
    chosen (cbs q) (left cbs x q) (ix2 b t)
      = BitVec.ofNat 32 (pickN (fun q => bookOf (cbs q)) (rowOf x b t) q).val := by
  rw [chosen_apply, left_row]
  rfl

/-- A stage's share of the loss: the mean of the squares of what it leaves. -/
def share (r : Rows) : FVec Ideal S_ .f32 :=
  mulf (Host.divf (Host.reduceAdd (mulf r r) (constant S_ .f32 0x00000000#32) reducesTo_S16x512x512_S_d0_1_2 h_S_)
    (constant S_ .f32 0x4A800000#32)) (constant S_ .f32 0x3F800000#32)

/-- A stage's share is the sum of the squared norms of the rows it leaves, divided by the number of entries. -/
theorem share_apply (r : Rows) :
    share r ix0 = Ideal.div (∑ b, ∑ t, sqNorm (rowOf r b t)) (Ideal.ofBits .f32 0x4A800000#32) := by
  pointwise [share]
  rfl

end Cert.ReferenceIdeal.Chain
-- ==== Proof.RefValue.lean ====
/- The reference's printed operations are the recursion over the stages, and so are its three results. -/
module

public import proofs.«01_k».proof.Proof.RefChain
public import proofs.«01_k».proof.Proof.Gen.ReferenceIdeal.Read

@[expose] public section

set_option maxRecDepth 16384

noncomputable section

namespace Cert.ReferenceIdeal.Results

open Idealize.ShloMosaic Cert.ReferenceIdeal Cert.ReferenceIdeal.Gen Cert.ReferenceIdeal.Read Cert.ReferenceIdeal.Stage
  Cert.ReferenceIdeal.Chain Cert.Rvq

/-- The codebooks. -/
abbrev Tabs := FVec Ideal S8x1024x512 .f32

variable (x : Rows) (c : Tabs)

/-- The codebook of stage `q`, as the program slices it. -/
def slice : ℕ → Tab
  | 0 => val_main_v2 (F := Ideal) c
  | 1 => val_main_v38 (F := Ideal) c
  | 2 => val_main_v74 (F := Ideal) c
  | 3 => val_main_v110 (F := Ideal) c
  | 4 => val_main_v146 (F := Ideal) c
  | 5 => val_main_v182 (F := Ideal) c
  | 6 => val_main_v218 (F := Ideal) c
  | _ => val_main_v254 (F := Ideal) c

theorem left1 : left (slice c) x 1 = val_main_v35 (F := Ideal) x c := rfl
theorem left2 : left (slice c) x 2 = val_main_v71 (F := Ideal) x c := by rw [left, left1]; rfl
theorem left3 : left (slice c) x 3 = val_main_v107 (F := Ideal) x c := by rw [left, left2]; rfl
theorem left4 : left (slice c) x 4 = val_main_v143 (F := Ideal) x c := by rw [left, left3]; rfl
theorem left5 : left (slice c) x 5 = val_main_v179 (F := Ideal) x c := by rw [left, left4]; rfl
theorem left6 : left (slice c) x 6 = val_main_v215 (F := Ideal) x c := by rw [left, left5]; rfl
theorem left7 : left (slice c) x 7 = val_main_v251 (F := Ideal) x c := by rw [left, left6]; rfl

/-- The first result is the sum of the eight stages' values. -/
theorem quantised : val_main_v286 (F := Ideal) x c = total (slice c) x 8 := by
  simp only [total, left1, left2, left3, left4, left5, left6, left7]
  rfl

theorem chosen0 : chosen (slice c 0) (left (slice c) x 0) = val_main_v36 (F := Ideal) x c := rfl
theorem chosen1 : chosen (slice c 1) (left (slice c) x 1) = val_main_v72 (F := Ideal) x c := by rw [left1]; rfl
theorem chosen2 : chosen (slice c 2) (left (slice c) x 2) = val_main_v108 (F := Ideal) x c := by rw [left2]; rfl
theorem chosen3 : chosen (slice c 3) (left (slice c) x 3) = val_main_v144 (F := Ideal) x c := by rw [left3]; rfl
theorem chosen4 : chosen (slice c 4) (left (slice c) x 4) = val_main_v180 (F := Ideal) x c := by rw [left4]; rfl
theorem chosen5 : chosen (slice c 5) (left (slice c) x 5) = val_main_v216 (F := Ideal) x c := by rw [left5]; rfl
theorem chosen6 : chosen (slice c 6) (left (slice c) x 6) = val_main_v252 (F := Ideal) x c := by rw [left6]; rfl
theorem chosen7 : chosen (slice c 7) (left (slice c) x 7) = val_main_v288 (F := Ideal) x c := by rw [left7]; rfl

/-- A vector of the first eight values of a function. -/
theorem eight {α : Type} (f : ℕ → α) (q : Fin 8) : ![f 0, f 1, f 2, f 3, f 4, f 5, f 6, f 7] q = f q.val := by
  fin_cases q <;> rfl

/-- Eight columns joined, at a place: the column of the last coordinate. -/
theorem joined_columns (a0 a1 a2 a3 a4 a5 a6 a7 : IVec S16x512 32) (b : Fin 16) (t : Fin 512) (q : Fin 8) :
    concatenate S16x512x8 2
      [⟨S16x512x1, broadcastInDim S16x512x1 ![0, 1] bcast_S16x512_S16x512x1_0_1 a0⟩,
        ⟨S16x512x1, broadcastInDim S16x512x1 ![0, 1] bcast_S16x512_S16x512x1_0_1 a1⟩,
        ⟨S16x512x1, broadcastInDim S16x512x1 ![0, 1] bcast_S16x512_S16x512x1_0_1 a2⟩,
        ⟨S16x512x1, broadcastInDim S16x512x1 ![0, 1] bcast_S16x512_S16x512x1_0_1 a3⟩,
        ⟨S16x512x1, broadcastInDim S16x512x1 ![0, 1] bcast_S16x512_S16x512x1_0_1 a4⟩,
        ⟨S16x512x1, broadcastInDim S16x512x1 ![0, 1] bcast_S16x512_S16x512x1_0_1 a5⟩,
        ⟨S16x512x1, broadcastInDim S16x512x1 ![0, 1] bcast_S16x512_S16x512x1_0_1 a6⟩,
        ⟨S16x512x1, broadcastInDim S16x512x1 ![0, 1] bcast_S16x512_S16x512x1_0_1 a7⟩]
      concatenates_S16x512x1_S16x512x1_S16x512x1_S16x512x1_S16x512x1_S16x512x1_S16x512x1_S16x512x1_S16x512x8_d2 (ix3 b t q)
      = ![a0, a1, a2, a3, a4, a5, a6, a7] q (ix2 b t) := by
  pointwise
  fin_cases q <;> rfl

/-- The second result joins the eight columns of numbers. -/
theorem numbers (b : Fin 16) (t : Fin 512) (q : Fin 8) :
    val_main_v297 (F := Ideal) x c (ix3 b t q) = chosen (slice c q.val) (left (slice c) x q.val) (ix2 b t) := by
  have h := eight (fun q => chosen (slice c q) (left (slice c) x q)) q
  rw [chosen0, chosen1, chosen2, chosen3, chosen4, chosen5, chosen6, chosen7] at h
  exact (joined_columns _ _ _ _ _ _ _ _ b t q).trans (congrFun h (ix2 b t))

theorem share0 : share (left (slice c) x 1) = val_main_v31 (F := Ideal) x c := rfl
theorem share1 : share (left (slice c) x 2) = val_main_v67 (F := Ideal) x c := by rw [left, left1]; rfl
theorem share2 : share (left (slice c) x 3) = val_main_v103 (F := Ideal) x c := by rw [left, left2]; rfl
theorem share3 : share (left (slice c) x 4) = val_main_v139 (F := Ideal) x c := by rw [left, left3]; rfl
theorem share4 : share (left (slice c) x 5) = val_main_v175 (F := Ideal) x c := by rw [left, left4]; rfl
theorem share5 : share (left (slice c) x 6) = val_main_v211 (F := Ideal) x c := by rw [left, left5]; rfl
theorem share6 : share (left (slice c) x 7) = val_main_v247 (F := Ideal) x c := by rw [left, left6]; rfl
theorem share7 : share (left (slice c) x 8) = val_main_v283 (F := Ideal) x c := by rw [left, left7]; rfl

/-- The third result adds the eight stages' shares. -/
theorem loss_shares : val_main_v307 (F := Ideal) x c ix0 = ∑ q : Fin 8, share (left (slice c) x (q.val + 1)) ix0 := by
  have e : val_main_v307 (F := Ideal) x c ix0
      = ∑ q : Fin 8, (![val_main_v31 (F := Ideal) x c, val_main_v67 (F := Ideal) x c, val_main_v103 (F := Ideal) x c,
          val_main_v139 (F := Ideal) x c, val_main_v175 (F := Ideal) x c, val_main_v211 (F := Ideal) x c,
          val_main_v247 (F := Ideal) x c, val_main_v283 (F := Ideal) x c] q) ix0 := by
    unfold val_main_v307 val_main_v306 val_main_v298 val_main_v299 val_main_v300 val_main_v301 val_main_v302 val_main_v303 val_main_v304 val_main_v305
    generalize val_main_v31 (F := Ideal) x c = a0
    generalize val_main_v67 (F := Ideal) x c = a1
    generalize val_main_v103 (F := Ideal) x c = a2
    generalize val_main_v139 (F := Ideal) x c = a3
    generalize val_main_v175 (F := Ideal) x c = a4
    generalize val_main_v211 (F := Ideal) x c = a5
    generalize val_main_v247 (F := Ideal) x c = a6
    generalize val_main_v283 (F := Ideal) x c = a7
    pointwise [val_main_cst_71]
    refine Finset.sum_congr rfl fun q _ => ?_
    fin_cases q <;> rfl
  refine e.trans (Finset.sum_congr rfl fun q _ => ?_)
  have h := eight (fun q => share (left (slice c) x (q + 1))) q
  simp only [zero_add, Nat.reduceAdd] at h
  rw [share0, share1, share2, share3, share4, share5, share6, share7] at h
  exact congrFun h ix0

/-- A stage's codebook is the slab of the codebooks at its number. -/
theorem slice_apply (q : Fin 8) (k : Fin 1024) (d : Fin 512) : slice c q.val (ix2 k d) = c (ix3 q k d) := by
  fin_cases q <;>
    pointwise [slice, val_main_v2, val_main_v1, val_main_v38, val_main_v37, val_main_v74, val_main_v73, val_main_v110,
      val_main_v109, val_main_v146, val_main_v145, val_main_v182, val_main_v181, val_main_v218, val_main_v217,
      val_main_v254, val_main_v253]

end Cert.ReferenceIdeal.Results
-- ==== Proof.Equation.lean ====
/- The equation: the kernel's three results are the reference's. -/
module

public import proofs.«01_k».proof.Proof.Tail
public import proofs.«01_k».proof.Proof.RefValue

@[expose] public section

set_option maxRecDepth 16384

noncomputable section

namespace Cert.Equation

open Idealize.ShloMosaic Idealize.ShloMosaic.TcCoe Cert.Rvq Cert.KernelIdeal.Block Cert.KernelIdeal.Entry Cert.KernelIdeal.Final
  Cert.KernelIdeal.Tail Cert.ReferenceIdeal.Chain Cert.ReferenceIdeal.Results Cert.ReferenceIdeal.Read

/-- The reference's codebooks by stage are the kernel's. -/
theorem books_eq (cb : Tabs) : (fun q => bookOf (slice cb q)) = books cb := by
  funext q k d
  have e : slice cb q = slice cb (stageIx q).val := by
    match q with
    | 0 | 1 | 2 | 3 | 4 | 5 | 6 | 7 | _ + 8 => rfl
  exact (congrFun e (ix2 k d)).trans (slice_apply cb (stageIx q) k d)

variable (m : (ℓ : Loc Cert.KernelIdeal.nD Cert.KernelIdeal.τ Cert.KernelIdeal.sig) → Buf (Elt Ideal) ℓ) (c : Dev Cert.KernelIdeal.nD)

/-- The first result. -/
theorem quants_eq : val_main_v286 (F := Ideal) (xs m c) (cs m c) = quants m c := by
  funext i
  rw [eq_ix3 i, quantised]
  refine (total_apply _ _ _ _ _ 8).trans (Eq.trans ?_ (quants_apply m _ _ _).symm)
  rw [books_eq]
  rfl

/-- The second result. -/
theorem choices_eq : val_main_v297 (F := Ideal) (xs m c) (cs m c) = choices m c := by
  funext i
  rw [eq_ix3 i]
  refine (numbers _ _ _ _ _).trans ((chosen_left _ _ _ _ _).trans (Eq.trans ?_ (choices_apply m _ _ _).symm))
  rw [books_eq]
  rfl

/-- The third result. -/
theorem loss_eq : val_main_v307 (F := Ideal) (xs m c) (cs m c) = loss m c := by
  funext i
  rw [show i = ix0 from funext fun a => nomatch a]
  refine (loss_shares _ _).trans (Eq.trans ?_ (loss_apply m).symm)
  refine Finset.sum_congr (M := EReal) rfl fun q _ => ?_
  refine (share_apply _).trans ?_
  simp only [left_row, books_eq]
  rfl

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_nearest_is_unique
public import proofs.«01_k».proof.Proof.Finite
public import proofs.«01_k».proof.Proof.Equation
public import Idealize.ShloMosaic.Adequacy
public import Idealize.ShloMosaic.Init

@[expose] public section

noncomputable section

namespace Cert.Proof

open Idealize.ShloMosaic Idealize.SL.Sem

/-- The reference runs, leaves its arguments unchanged and ends with every semaphore at zero. -/
theorem frame_r : Cert.quiescent_ReferenceIdeal := fun m ρ _ =>
  (θ_run Cert.ReferenceIdeal.defs _ _).mono
    (fun _ h => ⟨fun c => (h c).2.2.2, funext fun sm => nomatch sm⟩)
    (Cert.ReferenceIdeal.Value.run m ρ)

/-- Where the precondition holds the codebooks less themselves are zero. -/
theorem finite {m : (ℓ : Loc Cert.KernelIdeal.nD Cert.KernelIdeal.τ Cert.KernelIdeal.sig) → Buf (Elt Ideal) ℓ}
    (h : Cert.Pre_KernelIdeal m) (c : Dev Cert.KernelIdeal.nD) : Cert.KernelIdeal.Final.Finite m c := fun i =>
  Cert.Pre_nearest_is_unique.Finite.sub_self_of_lt _ (Cert.Pre_nearest_is_unique.Finite.entry_lt _ _ (h c) i)

/-- From equal arguments both programs run and end with equal results. -/
theorem value : Cert.algebraic_KernelIdeal_ReferenceIdeal := fun m g m' g' hp hm =>
  ⟨fun c => Cert.KernelIdeal.Tail.quants m c, fun c => Cert.KernelIdeal.Tail.choices m c, fun c => Cert.KernelIdeal.Tail.loss m c,
   Cert.KernelIdeal.Tail.run m g (finite hp),
   (θ_run Cert.ReferenceIdeal.defs _ _).mono
    (fun _ h c => by
      have e0 : StableHlo.launchContents m' c (Proc.devRef .tc Cert.ReferenceIdeal.main_arg0) = Cert.KernelIdeal.Entry.xs m c := (hm c).1
      have e1 : StableHlo.launchContents m' c (Proc.devRef .tc Cert.ReferenceIdeal.main_arg1) = Cert.KernelIdeal.Entry.cs m c := (hm c).2
      refine ⟨(h c).1.trans ((Cert.ReferenceIdeal.Read.val_main_v286_eq _).trans ?_),
        (h c).2.1.trans ((Cert.ReferenceIdeal.Read.val_main_v297_eq _).trans ?_),
        (h c).2.2.1.trans ((Cert.ReferenceIdeal.Read.val_main_v307_eq _).trans ?_), (h c).2.2.2⟩
      · rw [e0, e1]; exact Cert.Equation.quants_eq m c
      · rw [e0, e1]; exact Cert.Equation.choices_eq m c
      · rw [e0, e1]; exact Cert.Equation.loss_eq m c)
    (Cert.ReferenceIdeal.Value.run m' g')⟩

theorem claim : Cert.Claim :=
  ⟨Cert.Kernel.Gen.facts, Cert.KernelIdeal.Gen.facts, Cert.ReferenceIdeal.Gen.facts, Cert.Pre_nearest_is_unique.Gen.facts,
   fun m ρ _ => Cert.Kernel.Gen.frame m ρ,
   fun m ρ _ => Cert.Kernel.Gen.frame m ρ,
   fun m ρ _ => Cert.KernelIdeal.Gen.frame m ρ,
   frame_r, fun m ρ _ => frame_r m ρ trivial, trivial, value⟩

end Cert.Proof

end
